-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_drawn [hPre_inputs_drawn : Cert.Pre_inputs_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_drawn [hPre_inputs_drawn : Cert.Pre_inputs_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_drawn [hKernelIdeal : Cert.KernelIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_drawn [hReferenceIdeal : Cert.ReferenceIdeal.Facts] [hPre_inputs_drawn : Cert.Pre_inputs_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_inputs_drawn [hKernelIdeal : Cert.KernelIdeal.Facts] [hReferenceIdeal : Cert.ReferenceIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_inputs_drawn : Cert.Pre_inputs_drawn.Facts),
    quiescent_Kernel (hKernel := hKernel)
    ∧ quiescent_KernelIdeal (hKernelIdeal := hKernelIdeal)
    ∧ quiescent_KernelIdeal_pre_inputs_drawn (hKernelIdeal := hKernelIdeal) (hPre_inputs_drawn := hPre_inputs_drawn)
    ∧ quiescent_ReferenceIdeal (hReferenceIdeal := hReferenceIdeal)
    ∧ quiescent_ReferenceIdeal_pre_inputs_drawn (hReferenceIdeal := hReferenceIdeal) (hPre_inputs_drawn := hPre_inputs_drawn)
    ∧ preserves_Kernel_KernelIdeal
    ∧ algebraic_KernelIdeal_ReferenceIdeal_pre_inputs_drawn (hKernelIdeal := hKernelIdeal) (hReferenceIdeal := hReferenceIdeal) (hPre_inputs_drawn := hPre_inputs_drawn)
-- ==== Pre_inputs_drawn.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  bcast_S_S2x160000 : S_.BroadcastsInDim S2x160000 (![] : Fin 0 → Fin S2x160000.rank)
  bcast_S_S10000 : S_.BroadcastsInDim S10000 (![] : Fin 0 → Fin S10000.rank)
  reducesTo_S10000_S_d0 : S10000.ReducesTo [0] S_
  h_S_ : 0 < S_.numel
  bcast_S_S256x256 : S_.BroadcastsInDim S256x256 (![] : Fin 0 → Fin S256x256.rank)
  bcast_S_S256 : S_.BroadcastsInDim S256 (![] : Fin 0 → Fin S256.rank)

variable [Facts]

def fn_part3 {F : FTy → Type} [FloatOps F] (main_arg11 : FVec F S256 .f32) (main_arg12 : FVec F S256 .f32) (main_v4 : IVec S10000x256 1) (main_v9 : IVec S2x160000 1) (main_v11 : IVec S10000 1) (main_v13 : IVec S_ 1) (main_v18 : IVec S10000x256 1) (main_v23 : IVec S2x160000 1) (main_v25 : IVec S10000 1) (main_v27 : IVec S_ 1) (main_v32 : IVec S256x256 1) (main_v37 : IVec S256 1) (main_v42 : IVec S256 1) (main_v47 : IVec S256x256 1) (main_v48 : FVec F S256 .f32) : IVec S10000x256 1 × IVec S2x160000 1 × IVec S10000 1 × IVec S_ 1 × IVec S10000x256 1 × IVec S2x160000 1 × IVec S10000 1 × IVec S_ 1 × IVec S256x256 1 × IVec S256 1 × IVec S256 1 × IVec S256x256 1 × IVec S256 1 × IVec S256 1 :=
  let main_v49 : IVec S256 1 := cmpf .olt main_arg11 main_v48
  let main_cst_21 : FVec F S_ .f32 := constant S_ .f32 0xFF800000#32
  let main_v50 : FVec F S256 .f32 := broadcastInDim S256 ![] bcast_S_S256 main_cst_21
  let main_v51 : IVec S256 1 := cmpf .ogt main_arg11 main_v50
  let main_v52 : IVec S256 1 := andi main_v49 main_v51
  let main_cst_22 : FVec F S_ .f32 := constant S_ .f32 0x7F800000#32
  let main_v53 : FVec F S256 .f32 := broadcastInDim S256 ![] bcast_S_S256 main_cst_22
  let main_v54 : IVec S256 1 := cmpf .olt main_arg12 main_v53
  let main_cst_23 : FVec F S_ .f32 := constant S_ .f32 0xFF800000#32
  let main_v55 : FVec F S256 .f32 := broadcastInDim S256 ![] bcast_S_S256 main_cst_23
  let main_v56 : IVec S256 1 := cmpf .ogt main_arg12 main_v55
  let main_v57 : IVec S256 1 := andi main_v54 main_v56
  (main_v4, main_v9, main_v11, main_v13, main_v18, main_v23, main_v25, main_v27, main_v32, main_v37, main_v42, main_v47, main_v52, main_v57)

def fn_part2 {F : FTy → Type} [FloatOps F] (main_arg7 : FVec F S256 .f32) (main_arg8 : FVec F S256 .f32) (main_arg10 : FVec F S256x256 .f32) (main_arg11 : FVec F S256 .f32) (main_arg12 : FVec F S256 .f32) (main_v4 : IVec S10000x256 1) (main_v9 : IVec S2x160000 1) (main_v11 : IVec S10000 1) (main_v13 : IVec S_ 1) (main_v18 : IVec S10000x256 1) (main_v23 : IVec S2x160000 1) (main_v25 : IVec S10000 1) (main_v27 : IVec S_ 1) (main_v29 : IVec S256x256 1) (main_v31 : IVec S256x256 1) : IVec S10000x256 1 × IVec S2x160000 1 × IVec S10000 1 × IVec S_ 1 × IVec S10000x256 1 × IVec S2x160000 1 × IVec S10000 1 × IVec S_ 1 × IVec S256x256 1 × IVec S256 1 × IVec S256 1 × IVec S256x256 1 × IVec S256 1 × IVec S256 1 :=
  let main_v32 : IVec S256x256 1 := andi main_v29 main_v31
  let main_cst_14 : FVec F S_ .f32 := constant S_ .f32 0x7F800000#32
  let main_v33 : FVec F S256 .f32 := broadcastInDim S256 ![] bcast_S_S256 main_cst_14
  let main_v34 : IVec S256 1 := cmpf .olt main_arg7 main_v33
  let main_cst_15 : FVec F S_ .f32 := constant S_ .f32 0xFF800000#32
  let main_v35 : FVec F S256 .f32 := broadcastInDim S256 ![] bcast_S_S256 main_cst_15
  let main_v36 : IVec S256 1 := cmpf .ogt main_arg7 main_v35
  let main_v37 : IVec S256 1 := andi main_v34 main_v36
  let main_cst_16 : FVec F S_ .f32 := constant S_ .f32 0x7F800000#32
  let main_v38 : FVec F S256 .f32 := broadcastInDim S256 ![] bcast_S_S256 main_cst_16
  let main_v39 : IVec S256 1 := cmpf .olt main_arg8 main_v38
  let main_cst_17 : FVec F S_ .f32 := constant S_ .f32 0xFF800000#32
  let main_v40 : FVec F S256 .f32 := broadcastInDim S256 ![] bcast_S_S256 main_cst_17
  let main_v41 : IVec S256 1 := cmpf .ogt main_arg8 main_v40
  let main_v42 : IVec S256 1 := andi main_v39 main_v41
  let main_cst_18 : FVec F S_ .f32 := constant S_ .f32 0x7F800000#32
  let main_v43 : FVec F S256x256 .f32 := broadcastInDim S256x256 ![] bcast_S_S256x256 main_cst_18
  let main_v44 : IVec S256x256 1 := cmpf .olt main_arg10 main_v43
  let main_cst_19 : FVec F S_ .f32 := constant S_ .f32 0xFF800000#32
  let main_v45 : FVec F S256x256 .f32 := broadcastInDim S256x256 ![] bcast_S_S256x256 main_cst_19
  let main_v46 : IVec S256x256 1 := cmpf .ogt main_arg10 main_v45
  let main_v47 : IVec S256x256 1 := andi main_v44 main_v46
  let main_cst_20 : FVec F S_ .f32 := constant S_ .f32 0x7F800000#32
  let main_v48 : FVec F S256 .f32 := broadcastInDim S256 ![] bcast_S_S256 main_cst_20
  fn_part3 (F := F) main_arg11 main_arg12 main_v4 main_v9 main_v11 main_v13 main_v18 main_v23 main_v25 main_v27 main_v32 main_v37 main_v42 main_v47 main_v48

def fn_part1 {F : FTy → Type} [FloatOps F] (main_arg3 : FVec F S10000x256 .f32) (main_arg4 : IVec S2x160000 32) (main_arg5 : IVec S10000 32) (main_arg6 : FVec F S256x256 .f32) (main_arg7 : FVec F S256 .f32) (main_arg8 : FVec F S256 .f32) (main_arg10 : FVec F S256x256 .f32) (main_arg11 : FVec F S256 .f32) (main_arg12 : FVec F S256 .f32) (main_v4 : IVec S10000x256 1) (main_v9 : IVec S2x160000 1) (main_v11 : IVec S10000 1) (main_v13 : IVec S_ 1) (main_v15 : IVec S10000x256 1) : IVec S10000x256 1 × IVec S2x160000 1 × IVec S10000 1 × IVec S_ 1 × IVec S10000x256 1 × IVec S2x160000 1 × IVec S10000 1 × IVec S_ 1 × IVec S256x256 1 × IVec S256 1 × IVec S256 1 × IVec S256x256 1 × IVec S256 1 × IVec S256 1 :=
  let main_cst_6 : FVec F S_ .f32 := constant S_ .f32 0xFF800000#32
  let main_v16 : FVec F S10000x256 .f32 := broadcastInDim S10000x256 ![] bcast_S_S10000x256 main_cst_6
  let main_v17 : IVec S10000x256 1 := cmpf .ogt main_arg3 main_v16
  let main_v18 : IVec S10000x256 1 := andi main_v15 main_v17
  let main_c_7 : IVec S_ 32 := constantI S_ 32 0#32
  let main_v19 : IVec S2x160000 32 := broadcastInDim S2x160000 ![] bcast_S_S2x160000 main_c_7
  let main_v20 : IVec S2x160000 1 := cmpi .sge main_arg4 main_v19
  let main_c_8 : IVec S_ 32 := constantI S_ 32 10000#32
  let main_v21 : IVec S2x160000 32 := broadcastInDim S2x160000 ![] bcast_S_S2x160000 main_c_8
  let main_v22 : IVec S2x160000 1 := cmpi .slt main_arg4 main_v21
  let main_v23 : IVec S2x160000 1 := andi main_v20 main_v22
  let main_c_9 : IVec S_ 32 := constantI S_ 32 0#32
  let main_v24 : IVec S10000 32 := broadcastInDim S10000 ![] bcast_S_S10000 main_c_9
  let main_v25 : IVec S10000 1 := cmpi .sge main_arg5 main_v24
  let main_c_10 : IVec S_ 32 := constantI S_ 32 2147483647#32
  let main_v26 : IVec S_ 32 := (fun x v => Host.reduce IntOp.minsi x v reducesTo_S10000_S_d0 h_S_) main_arg5 main_c_10
  let main_c_11 : IVec S_ 32 := constantI S_ 32 0#32
  let main_v27 : IVec S_ 1 := cmpi .eq main_v26 main_c_11
  let main_cst_12 : FVec F S_ .f32 := constant S_ .f32 0x7F800000#32
  let main_v28 : FVec F S256x256 .f32 := broadcastInDim S256x256 ![] bcast_S_S256x256 main_cst_12
  let main_v29 : IVec S256x256 1 := cmpf .olt main_arg6 main_v28
  let main_cst_13 : FVec F S_ .f32 := constant S_ .f32 0xFF800000#32
  let main_v30 : FVec F S256x256 .f32 := broadcastInDim S256x256 ![] bcast_S_S256x256 main_cst_13
  let main_v31 : IVec S256x256 1 := cmpf .ogt main_arg6 main_v30
  fn_part2 (F := F) main_arg7 main_arg8 main_arg10 main_arg11 main_arg12 main_v4 main_v9 main_v11 main_v13 main_v18 main_v23 main_v25 main_v27 main_v29 main_v31

def fn {F : FTy → Type} [FloatOps F] (main_arg0 : FVec F S10000x256 .f32) (main_arg1 : IVec S2x160000 32) (main_arg2 : IVec S10000 32) (main_arg3 : FVec F S10000x256 .f32) (main_arg4 : IVec S2x160000 32) (main_arg5 : IVec S10000 32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256x1 .f32) (main_arg15 : FVec F S1 .f32) : IVec S10000x256 1 × IVec S2x160000 1 × IVec S10000 1 × IVec S_ 1 × IVec S10000x256 1 × IVec S2x160000 1 × IVec S10000 1 × IVec S_ 1 × IVec S256x256 1 × IVec S256 1 × IVec S256 1 × IVec S256x256 1 × IVec S256 1 × IVec S256 1 :=
  let main_cst : FVec F S_ .f32 := constant S_ .f32 0x7F800000#32
  let main_v0 : FVec F S10000x256 .f32 := broadcastInDim S10000x256 ![] bcast_S_S10000x256 main_cst
  let main_v1 : IVec S10000x256 1 := cmpf .olt main_arg0 main_v0
  let main_cst_0 : FVec F S_ .f32 := constant S_ .f32 0xFF800000#32
  let main_v2 : FVec F S10000x256 .f32 := broadcastInDim S10000x256 ![] bcast_S_S10000x256 main_cst_0
  let main_v3 : IVec S10000x256 1 := cmpf .ogt main_arg0 main_v2
  let main_v4 : IVec S10000x256 1 := andi main_v1 main_v3
  let main_c : IVec S_ 32 := constantI S_ 32 0#32
  let main_v5 : IVec S2x160000 32 := broadcastInDim S2x160000 ![] bcast_S_S2x160000 main_c
  let main_v6 : IVec S2x160000 1 := cmpi .sge main_arg1 main_v5
  let main_c_1 : IVec S_ 32 := constantI S_ 32 10000#32
  let main_v7 : IVec S2x160000 32 := broadcastInDim S2x160000 ![] bcast_S_S2x160000 main_c_1
  let main_v8 : IVec S2x160000 1 := cmpi .slt main_arg1 main_v7
  let main_v9 : IVec S2x160000 1 := andi main_v6 main_v8
  let main_c_2 : IVec S_ 32 := constantI S_ 32 0#32
  let main_v10 : IVec S10000 32 := broadcastInDim S10000 ![] bcast_S_S10000 main_c_2
  let main_v11 : IVec S10000 1 := cmpi .sge main_arg2 main_v10
  let main_c_3 : IVec S_ 32 := constantI S_ 32 2147483647#32
  let main_v12 : IVec S_ 32 := (fun x v => Host.reduce IntOp.minsi x v reducesTo_S10000_S_d0 h_S_) main_arg2 main_c_3
  let main_c_4 : IVec S_ 32 := constantI S_ 32 0#32
  let main_v13 : IVec S_ 1 := cmpi .eq main_v12 main_c_4
  let main_cst_5 : FVec F S_ .f32 := constant S_ .f32 0x7F800000#32
  let main_v14 : FVec F S10000x256 .f32 := broadcastInDim S10000x256 ![] bcast_S_S10000x256 main_cst_5
  let main_v15 : IVec S10000x256 1 := cmpf .olt main_arg3 main_v14
  fn_part1 (F := F) main_arg3 main_arg4 main_arg5 main_arg6 main_arg7 main_arg8 main_arg10 main_arg11 main_arg12 main_v4 main_v9 main_v11 main_v13 main_v15
-- ==== Kernel.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S10240x256 : Shape := ⟨2, ![10240, 256]⟩
abbrev S1x160000 : Shape := ⟨2, ![1, 160000]⟩
abbrev S160000 : Shape := ⟨1, ![160000]⟩
abbrev S160256 : Shape := ⟨1, ![160256]⟩
abbrev S313x1x512 : Shape := ⟨3, ![313, 1, 512]⟩
abbrev S10240 : Shape := ⟨1, ![10240]⟩
abbrev S1x10240 : Shape := ⟨2, ![1, 10240]⟩
abbrev S1x256 : Shape := ⟨2, ![1, 256]⟩
abbrev S64x256 : Shape := ⟨2, ![64, 256]⟩
abbrev S64x1 : Shape := ⟨2, ![64, 1]⟩
abbrev S64x10240 : Shape := ⟨2, ![64, 10240]⟩
abbrev S64 : Shape := ⟨1, ![64]⟩
abbrev S10240x1 : Shape := ⟨2, ![10240, 1]⟩
abbrev S40x256 : Shape := ⟨2, ![40, 256]⟩
abbrev S2560x256 : Shape := ⟨2, ![2560, 256]⟩
abbrev S1x1x512 : Shape := ⟨3, ![1, 1, 512]⟩
abbrev S1x512 : Shape := ⟨2, ![1, 512]⟩
abbrev S256x512 : Shape := ⟨2, ![256, 512]⟩
abbrev S40x1 : Shape := ⟨2, ![40, 1]⟩
abbrev S40x512 : Shape := ⟨2, ![40, 512]⟩
abbrev S512 : Shape := ⟨1, ![512]⟩
abbrev S64x512 : Shape := ⟨2, ![64, 512]⟩
abbrev S2560x512 : Shape := ⟨2, ![2560, 512]⟩
abbrev S1x1 : Shape := ⟨2, ![1, 1]⟩

abbrev nBuf : Space → Nat
  | .hbm => 64
  | .vmem => 23
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S10000x256, .f32⟩
  | .hbm, ⟨4, _⟩ => ⟨S2x160000, .i32⟩
  | .hbm, ⟨5, _⟩ => ⟨S10000, .i32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S_, .i32⟩
  | .hbm, ⟨17, _⟩ => ⟨S_, .f32⟩
  | .hbm, ⟨18, _⟩ => ⟨S10240x256, .f32⟩
  | .hbm, ⟨19, _⟩ => ⟨S1x160000, .i32⟩
  | .hbm, ⟨20, _⟩ => ⟨S160000, .i32⟩
  | .hbm, ⟨21, _⟩ => ⟨S_, .i32⟩
  | .hbm, ⟨22, _⟩ => ⟨S_, .i32⟩
  | .hbm, ⟨23, _⟩ => ⟨S160256, .i32⟩
  | .hbm, ⟨24, _⟩ => ⟨S313x1x512, .i32⟩
  | .hbm, ⟨25, _⟩ => ⟨S1x160000, .i32⟩
  | .hbm, ⟨26, _⟩ => ⟨S160000, .i32⟩
  | .hbm, ⟨27, _⟩ => ⟨S_, .i32⟩
  | .hbm, ⟨28, _⟩ => ⟨S_, .i32⟩
  | .hbm, ⟨29, _⟩ => ⟨S160256, .i32⟩
  | .hbm, ⟨30, _⟩ => ⟨S313x1x512, .i32⟩
  | .hbm, ⟨31, _⟩ => ⟨S_, .i32⟩
  | .hbm, ⟨32, _⟩ => ⟨S_, .i32⟩
  | .hbm, ⟨33, _⟩ => ⟨S10240, .i32⟩
  | .hbm, ⟨34, _⟩ => ⟨S1x10240, .i32⟩
  | .hbm, ⟨35, _⟩ => ⟨S256x1, .f32⟩
  | .hbm, ⟨36, _⟩ => ⟨S256x1, .f32⟩
  | .hbm, ⟨37, _⟩ => ⟨S1x256, .f32⟩
  | .hbm, ⟨38, _⟩ => ⟨S64x256, .f32⟩
  | .hbm, ⟨39, _⟩ => ⟨S_, .i32⟩
  | .hbm, ⟨40, _⟩ => ⟨S_, .f32⟩
  | .hbm, ⟨41, _⟩ => ⟨S10240x256, .f32⟩
  | .hbm, ⟨42, _⟩ => ⟨S1x160000, .i32⟩
  | .hbm, ⟨43, _⟩ => ⟨S160000, .i32⟩
  | .hbm, ⟨44, _⟩ => ⟨S_, .i32⟩
  | .hbm, ⟨45, _⟩ => ⟨S_, .i32⟩
  | .hbm, ⟨46, _⟩ => ⟨S160256, .i32⟩
  | .hbm, ⟨47, _⟩ => ⟨S313x1x512, .i32⟩
  | .hbm, ⟨48, _⟩ => ⟨S1x160000, .i32⟩
  | .hbm, ⟨49, _⟩ => ⟨S160000, .i32⟩
  | .hbm, ⟨50, _⟩ => ⟨S_, .i32⟩
  | .hbm, ⟨51, _⟩ => ⟨S_, .i32⟩
  | .hbm, ⟨52, _⟩ => ⟨S160256, .i32⟩
  | .hbm, ⟨53, _⟩ => ⟨S313x1x512, .i32⟩
  | .hbm, ⟨54, _⟩ => ⟨S_, .i32⟩
  | .hbm, ⟨55, _⟩ => ⟨S_, .i32⟩
  | .hbm, ⟨56, _⟩ => ⟨S10240, .i32⟩
  | .hbm, ⟨57, _⟩ => ⟨S1x10240, .i32⟩
  | .hbm, ⟨58, _⟩ => ⟨S256x1, .f32⟩
  | .hbm, ⟨59, _⟩ => ⟨S256x1, .f32⟩
  | .hbm, ⟨60, _⟩ => ⟨S1x256, .f32⟩
  | .hbm, ⟨61, _⟩ => ⟨S64x256, .f32⟩
  | .hbm, ⟨62, _⟩ => ⟨S1x1, .f32⟩
  | .hbm, ⟨63, _⟩ => ⟨S64x1, .f32⟩
  | .local _ .vmem, ⟨0, _⟩ => ⟨S10240x256, .f32⟩
  | .local _ .vmem, ⟨1, _⟩ => ⟨S313x1x512, .i32⟩
  | .local _ .vmem, ⟨2, _⟩ => ⟨S313x1x512, .i32⟩
  | .local _ .vmem, ⟨3, _⟩ => ⟨S1x10240, .i32⟩
  | .local _ .vmem, ⟨4, _⟩ => ⟨S256x256, .f32⟩
  | .local _ .vmem, ⟨5, _⟩ => ⟨S256x1, .f32⟩
  | .local _ .vmem, ⟨6, _⟩ => ⟨S256x1, .f32⟩
  | .local _ .vmem, ⟨7, _⟩ => ⟨S1x256, .f32⟩
  | .local _ .vmem, ⟨8, _⟩ => ⟨S64x256, .f32⟩
  | .local _ .vmem, ⟨9, _⟩ => ⟨S10240x256, .f32⟩
  | .local _ .vmem, ⟨10, _⟩ => ⟨S313x1x512, .i32⟩
  | .local _ .vmem, ⟨11, _⟩ => ⟨S313x1x512, .i32⟩
  | .local _ .vmem, ⟨12, _⟩ => ⟨S1x10240, .i32⟩
  | .local _ .vmem, ⟨13, _⟩ => ⟨S256x256, .f32⟩
  | .local _ .vmem, ⟨14, _⟩ => ⟨S256x1, .f32⟩
  | .local _ .vmem, ⟨15, _⟩ => ⟨S256x1, .f32⟩
  | .local _ .vmem, ⟨16, _⟩ => ⟨S1x256, .f32⟩
  | .local _ .vmem, ⟨17, _⟩ => ⟨S64x256, .f32⟩
  | .local _ .vmem, ⟨18, _⟩ => ⟨S64x256, .f32⟩
  | .local _ .vmem, ⟨19, _⟩ => ⟨S64x256, .f32⟩
  | .local _ .vmem, ⟨20, _⟩ => ⟨S256x1, .f32⟩
  | .local _ .vmem, ⟨21, _⟩ => ⟨S1x1, .f32⟩
  | .local _ .vmem, ⟨22, _⟩ => ⟨S64x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_call2_v0 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_call3_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_call4_v0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_call5_v0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_call6_v0 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_call7_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := .none

@[reducible] def k0_t1_loop : Scf.Loop 32 :=
  let c0_i32_18 : BitVec 32 := 0#32
  let c313_i32 : BitVec 32 := 313#32
  let v35 : BitVec 32 := Scalar.addi c0_i32_18 c313_i32
  let c1_i32_19 : BitVec 32 := 1#32
  ⟨c0_i32_18, v35, c1_i32_19⟩
def k0_off1 (k0_t1 : Fin k0_t1_loop.trips) : Fin 3 → Nat :=
  let c0_i32_18 : BitVec 32 := 0#32
  let c1_i32_19 : BitVec 32 := 1#32
  let arg9 : BitVec 32 := Scf.iv c0_i32_18 c1_i32_19 k0_t1
  let v289 : Index := Scalar.indexCast arg9
  let c0_71 : Index := 0#32
  let c0_72 : Index := 0#32
  ![v289.toNat, 0, 0]
abbrev stage0_0 : Fin 1 → Memref sig .tc .vmem S10240x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S313x1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S313x1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

@[reducible] def k1_t1_loop : Scf.Loop 32 :=
  let c0_i32_18 : BitVec 32 := 0#32
  let c313_i32 : BitVec 32 := 313#32
  let v35 : BitVec 32 := Scalar.addi c0_i32_18 c313_i32
  let c1_i32_19 : BitVec 32 := 1#32
  ⟨c0_i32_18, v35, c1_i32_19⟩
def k1_off1 (k1_t1 : Fin k1_t1_loop.trips) : Fin 3 → Nat :=
  let c0_i32_18 : BitVec 32 := 0#32
  let c1_i32_19 : BitVec 32 := 1#32
  let arg9 : BitVec 32 := Scf.iv c0_i32_18 c1_i32_19 k1_t1
  let v289 : Index := Scalar.indexCast arg9
  let c0_71 : Index := 0#32
  let c0_72 : Index := 0#32
  ![v289.toNat, 0, 0]
abbrev stage1_0 : Fin 1 → Memref sig .tc .vmem S10240x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S313x1x512 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S313x1x512 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x10240 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := .none

abbrev stage2_0 : Fin 1 → Memref sig .tc .vmem S64x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S10000x160000 : Shape := ⟨2, ![10000, 160000]⟩
abbrev S160000x256 : Shape := ⟨2, ![160000, 256]⟩
abbrev S1x256 : Shape := ⟨2, ![1, 256]⟩
abbrev S64 : Shape := ⟨1, ![64]⟩
abbrev S10000x1 : Shape := ⟨2, ![10000, 1]⟩
abbrev S64x1 : Shape := ⟨2, ![64, 1]⟩
abbrev S64x256 : Shape := ⟨2, ![64, 256]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S10000x256, .f32⟩
  | 4 => ⟨S2x160000, .i32⟩
  | 5 => ⟨S10000, .i32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S256x1, .f32⟩
  | 15 => ⟨S1, .f32⟩
  | 16 => ⟨S1x160000, .i32⟩
  | 17 => ⟨S160000, .i32⟩
  | 18 => ⟨S1x160000, .i32⟩
  | 19 => ⟨S160000, .i32⟩
  | 20 => ⟨S10000x256, .f32⟩
  | 21 => ⟨S10000, .f32⟩
  | 22 => ⟨S10000, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000, .f32⟩
  | 41 => ⟨S160000, .f32⟩
  | 42 => ⟨S_, .f32⟩
  | 43 => ⟨S160000, .f32⟩
  | 44 => ⟨S160000, .i1⟩
  | 45 => ⟨S_, .f32⟩
  | 46 => ⟨S160000, .f32⟩
  | 47 => ⟨S160000, .f32⟩
  | 48 => ⟨S160000, .f32⟩
  | 49 => ⟨S10000x160000, .i32⟩
  | 50 => ⟨S1x160000, .i32⟩
  | 51 => ⟨S10000x160000, .i32⟩
  | 52 => ⟨S10000x160000, .i1⟩
  | 53 => ⟨S1x160000, .f32⟩
  | 54 => ⟨S_, .f32⟩
  | 55 => ⟨S_, .f32⟩
  | 56 => ⟨S10000x160000, .f32⟩
  | 57 => ⟨S10000x160000, .f32⟩
  | 58 => ⟨S10000x160000, .f32⟩
  | 59 => ⟨S_, .f32⟩
  | 60 => ⟨S10000, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000, .f32⟩
  | 70 => ⟨S160000, .f32⟩
  | 71 => ⟨S160000, .f32⟩
  | 72 => ⟨S_, .f32⟩
  | 73 => ⟨S10000, .f32⟩
  | 74 => ⟨S160000x1, .i32⟩
  | 75 => ⟨S10000, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000, .f32⟩
  | 85 => ⟨S160000, .f32⟩
  | 86 => ⟨S160000x1, .f32⟩
  | 87 => ⟨S_, .i32⟩
  | 88 => ⟨S160000, .i32⟩
  | 89 => ⟨S160000, .i1⟩
  | 90 => ⟨S_, .i32⟩
  | 91 => ⟨S160000, .i32⟩
  | 92 => ⟨S160000, .i32⟩
  | 93 => ⟨S160000, .i32⟩
  | 94 => ⟨S160000x1, .i32⟩
  | 95 => ⟨S160000x256, .f32⟩
  | 96 => ⟨S160000x256, .f32⟩
  | 97 => ⟨S160000x256, .f32⟩
  | 98 => ⟨S_, .f32⟩
  | 99 => ⟨S10000x256, .f32⟩
  | 100 => ⟨S160000x1, .i32⟩
  | 101 => ⟨S10000x256, .f32⟩
  | 102 => ⟨S1x256, .f32⟩
  | 103 => ⟨S10000x256, .f32⟩
  | 104 => ⟨S10000x256, .f32⟩
  | 105 => ⟨S_, .i32⟩
  | 106 => ⟨S10000, .i32⟩
  | 107 => ⟨S_, .i32⟩
  | 108 => ⟨S64, .i32⟩
  | 109 => ⟨S10000x1, .i32⟩
  | 110 => ⟨S64, .i32⟩
  | 111 => ⟨S_, .i32⟩
  | 112 => ⟨S_, .i32⟩
  | 113 => ⟨S64, .i32⟩
  | 114 => ⟨S_, .i32⟩
  | 115 => ⟨S64, .i32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64x256, .f32⟩
  | 126 => ⟨S64x256, .f32⟩
  | 127 => ⟨S64x256, .f32⟩
  | _ => ⟨S10000x256, .f32⟩

abbrev hbmTy0_1 (i : Nat) : BufTy := match i % 128 with
  | 0 => ⟨S_, .f32⟩
  | 1 => ⟨S64x256, .f32⟩
  | 2 => ⟨S64x256, .f32⟩
  | 3 => ⟨S_, .f32⟩
  | 4 => ⟨S64x256, .f32⟩
  | 5 => ⟨S64x256, .f32⟩
  | 6 => ⟨S1x160000, .i32⟩
  | 7 => ⟨S160000, .i32⟩
  | 8 => ⟨S1x160000, .i32⟩
  | 9 => ⟨S160000, .i32⟩
  | 10 => ⟨S10000x256, .f32⟩
  | 11 => ⟨S10000, .f32⟩
  | 12 => ⟨S10000, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S160000, .f32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S160000, .f32⟩
  | 31 => ⟨S160000, .f32⟩
  | 32 => ⟨S_, .f32⟩
  | 33 => ⟨S160000, .f32⟩
  | 34 => ⟨S160000, .i1⟩
  | 35 => ⟨S_, .f32⟩
  | 36 => ⟨S160000, .f32⟩
  | 37 => ⟨S160000, .f32⟩
  | 38 => ⟨S160000, .f32⟩
  | 39 => ⟨S10000x160000, .i32⟩
  | 40 => ⟨S1x160000, .i32⟩
  | 41 => ⟨S10000x160000, .i32⟩
  | 42 => ⟨S10000x160000, .i1⟩
  | 43 => ⟨S1x160000, .f32⟩
  | 44 => ⟨S_, .f32⟩
  | 45 => ⟨S_, .f32⟩
  | 46 => ⟨S10000x160000, .f32⟩
  | 47 => ⟨S10000x160000, .f32⟩
  | 48 => ⟨S10000x160000, .f32⟩
  | 49 => ⟨S_, .f32⟩
  | 50 => ⟨S10000, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000, .f32⟩
  | 60 => ⟨S160000, .f32⟩
  | 61 => ⟨S160000, .f32⟩
  | 62 => ⟨S_, .f32⟩
  | 63 => ⟨S10000, .f32⟩
  | 64 => ⟨S160000x1, .i32⟩
  | 65 => ⟨S10000, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000, .f32⟩
  | 75 => ⟨S160000, .f32⟩
  | 76 => ⟨S160000x1, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x256, .f32⟩
  | 86 => ⟨S160000x256, .f32⟩
  | 87 => ⟨S160000x256, .f32⟩
  | 88 => ⟨S_, .f32⟩
  | 89 => ⟨S10000x256, .f32⟩
  | 90 => ⟨S160000x1, .i32⟩
  | 91 => ⟨S10000x256, .f32⟩
  | 92 => ⟨S1x256, .f32⟩
  | 93 => ⟨S10000x256, .f32⟩
  | 94 => ⟨S10000x256, .f32⟩
  | 95 => ⟨S_, .i32⟩
  | 96 => ⟨S10000, .i32⟩
  | 97 => ⟨S_, .i32⟩
  | 98 => ⟨S64, .i32⟩
  | 99 => ⟨S10000x1, .i32⟩
  | 100 => ⟨S64, .i32⟩
  | 101 => ⟨S_, .i32⟩
  | 102 => ⟨S_, .i32⟩
  | 103 => ⟨S64, .i32⟩
  | 104 => ⟨S_, .i32⟩
  | 105 => ⟨S64, .i32⟩
  | 106 => ⟨S64, .i32⟩
  | 107 => ⟨S_, .i32⟩
  | 108 => ⟨S64, .i32⟩
  | 109 => ⟨S64, .i1⟩
  | 110 => ⟨S_, .i32⟩
  | 111 => ⟨S64, .i32⟩
  | 112 => ⟨S64, .i32⟩
  | 113 => ⟨S64, .i32⟩
  | 114 => ⟨S64x1, .i32⟩
  | 115 => ⟨S64x256, .f32⟩
  | 116 => ⟨S64x256, .f32⟩
  | 117 => ⟨S64x256, .f32⟩
  | 118 => ⟨S_, .f32⟩
  | 119 => ⟨S64x256, .f32⟩
  | 120 => ⟨S64x256, .f32⟩
  | 121 => ⟨S_, .f32⟩
  | 122 => ⟨S64x256, .f32⟩
  | 123 => ⟨S64x256, .f32⟩
  | 124 => ⟨S64x256, .f32⟩
  | 125 => ⟨S64x1, .f32⟩
  | 126 => ⟨S1x1, .f32⟩
  | 127 => ⟨S64x1, .f32⟩
  | _ => ⟨S10000x256, .f32⟩

abbrev hbmTy0_2 (i : Nat) : BufTy := match i % 128 with
  | 0 => ⟨S64x1, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_11 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_c_15 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call2_call0_c : Ref sig .tc := ⟨.hbm, 111, rfl⟩
abbrev main_call2_call0_v0 : Ref sig .tc := ⟨.hbm, 112, rfl⟩
abbrev main_v74 : Ref sig .tc := ⟨.hbm, 113, rfl⟩
abbrev main_c_16 : Ref sig .tc := ⟨.hbm, 114, rfl⟩
abbrev main_v75 : Ref sig .tc := ⟨.hbm, 115, rfl⟩
abbrev main_v76 : Ref sig .tc := ⟨.hbm, 116, rfl⟩
abbrev main_c_17 : Ref sig .tc := ⟨.hbm, 117, rfl⟩
abbrev main_v77 : Ref sig .tc := ⟨.hbm, 118, rfl⟩
abbrev main_v78 : Ref sig .tc := ⟨.hbm, 119, rfl⟩
abbrev main_c_18 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_19 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_21 : Ref sig .tc := ⟨.hbm, 141, rfl⟩
abbrev main_v97 : Ref sig .tc := ⟨.hbm, 142, rfl⟩
abbrev main_v98 : Ref sig .tc := ⟨.hbm, 143, rfl⟩
abbrev main_c_22 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_c_23 : Ref sig .tc := ⟨.hbm, 150, rfl⟩
abbrev main_v104 : Ref sig .tc := ⟨.hbm, 151, rfl⟩
abbrev main_v105 : Ref sig .tc := ⟨.hbm, 152, rfl⟩
abbrev main_c_24 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_25 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_27 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_v122 : Ref sig .tc := ⟨.hbm, 176, rfl⟩
abbrev main_cst_28 : Ref sig .tc := ⟨.hbm, 177, rfl⟩
abbrev main_v123 : Ref sig .tc := ⟨.hbm, 178, rfl⟩
abbrev main_c_29 : Ref sig .tc := ⟨.hbm, 179, rfl⟩
abbrev main_v124 : Ref sig .tc := ⟨.hbm, 180, rfl⟩
abbrev main_v125 : Ref sig .tc := ⟨.hbm, 181, rfl⟩
abbrev main_c_30 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_31 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_c_32 : Ref sig .tc := ⟨.hbm, 194, rfl⟩
abbrev main_v136 : Ref sig .tc := ⟨.hbm, 195, rfl⟩
abbrev main_v137 : Ref sig .tc := ⟨.hbm, 196, rfl⟩
abbrev main_c_33 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_c_34 : Ref sig .tc := ⟨.hbm, 205, rfl⟩
abbrev main_v145 : Ref sig .tc := ⟨.hbm, 206, rfl⟩
abbrev main_v146 : Ref sig .tc := ⟨.hbm, 207, rfl⟩
abbrev main_c_35 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_36 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_c_37 : Ref sig .tc := ⟨.hbm, 223, rfl⟩
abbrev main_v160 : Ref sig .tc := ⟨.hbm, 224, rfl⟩
abbrev main_c_38 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_call5_call0_c : Ref sig .tc := ⟨.hbm, 229, rfl⟩
abbrev main_call5_call0_v0 : Ref sig .tc := ⟨.hbm, 230, rfl⟩
abbrev main_v164 : Ref sig .tc := ⟨.hbm, 231, rfl⟩
abbrev main_c_39 : Ref sig .tc := ⟨.hbm, 232, rfl⟩
abbrev main_v165 : Ref sig .tc := ⟨.hbm, 233, rfl⟩
abbrev main_v166 : Ref sig .tc := ⟨.hbm, 234, rfl⟩
abbrev main_c_40 : Ref sig .tc := ⟨.hbm, 235, rfl⟩
abbrev main_v167 : Ref sig .tc := ⟨.hbm, 236, rfl⟩
abbrev main_v168 : Ref sig .tc := ⟨.hbm, 237, rfl⟩
abbrev main_c_41 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_cst_42 : Ref sig .tc := ⟨.hbm, 246, rfl⟩
abbrev main_v176 : Ref sig .tc := ⟨.hbm, 247, rfl⟩
abbrev main_v177 : Ref sig .tc := ⟨.hbm, 248, rfl⟩
abbrev main_cst_43 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩

abbrev nD : Nat := 1
abbrev τ : Topo := Topo.v7x

variable {F : FTy → Type} [FloatOps F]
-- ==== Proof.Frames.lean ====
/- The three frames: each program leaves every argument array as it found it, and every semaphore counter at zero.
   For the two kernels this is what their generated launches end in; the reference is one straight line of host
   operations, declares no semaphore, and its run reads the arguments back unchanged. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as published leaves its arguments unchanged and its counters at zero. -/
theorem kernel_frame : Cert.quiescent_Kernel := fun m ρ _ => Cert.Kernel.Gen.frame m ρ

/-- The kernel at exact values leaves its arguments unchanged and its counters at zero. -/
theorem kernelIdeal_frame : Cert.quiescent_KernelIdeal := fun m ρ _ => Cert.KernelIdeal.Gen.frame m ρ

/-- The reference leaves its arguments unchanged and its counters at zero. -/
theorem referenceIdeal_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

end Cert.Proof

end
-- ==== Proof.Launch.lean ====
/-
  The kernel's launch with the whole memory read at its end: every unscoped array holds what the last segment of the
  run left there.
-/
module
public import proofs.«01_k».proof.Proof.Gen.KernelIdeal
public import proofs.«01_k».proof.Proof.Gen.KernelIdeal.Frame
@[expose] public section
set_option maxRecDepth 16384
noncomputable section
namespace Cert.Proof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The kernel's run: it ends, nothing faulting, with every unscoped array at what the last segment leaves. -/
theorem kernel_run : θ_run defs (onTc (τ := τ) (main (F := F))) ⟨m, fun _ => 0, ρ⟩ (fun r => ∀ c : Dev nD,
    ∀ b ∈ Pipeline.ucRefs τ sig, r.2.mem (((c : Thread nD τ)).1, b) = W22 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h _ => h)

/-- No argument array is scoped. -/
theorem args_unscoped : ∀ a ∈ argRefs, ¬ (Proc.devRef .tc a : DevRef τ sig).isScoped :=
  ListAll.forall_mem_of_all_decide (by decide +kernel)

/-- The run's memory at the result and at the arguments, each named. -/
theorem kernel_value : θ_run defs (onTc (τ := τ) (main (F := F))) ⟨m, fun _ => 0, ρ⟩ (fun r => ∀ c : Dev nD,
    r.2.mem ((c : Thread nD τ).loc main_v31) = W22 m ρ c (Proc.devRef .tc main_v31)
    ∧ ∀ a ∈ argRefs, r.2.mem ((c : Thread nD τ).loc a) = m ((c : Thread nD τ).loc a)) :=
  (θ_run defs _ _).mono (fun r h c => ⟨h c _ (mem_uc main_v31 (by decide)),
    fun a ha => (h c _ (mem_uc a (args_unscoped a ha))).trans (W22_args m ρ c a ha)⟩) (kernel_run m ρ)
end Cert.Proof
end
-- ==== Proof.Payload.lean ====
module
public import proofs.«01_k».proof.Proof.Gen.KernelIdeal.Skeleton
public import Idealize.ShloMosaic.Lib.Pointwise
public import Idealize.ShloMosaic.Lib.Pipeline.Value
@[expose] public section

/-
  The kernel body of one GAT side, as named values over the printed payloads, read at an index:
  what a trip of its loop adds to the two accumulators (`tripVal`), and what is computed from the
  accumulators after the loop (`finish`). Both sides of the model run the same body; region 1's
  payloads are the same text as region 0's.
-/

set_option maxRecDepth 16384
noncomputable section
namespace Cert.Proof.K
open Cert.KernelIdeal Cert.KernelIdeal.Gen Idealize.ShloMosaic Idealize.ShloMosaic.TcCoe
variable {F : FTy → Type} [FloatOps F]

/-- The 2560 × 512 stack of a trip: block `h` of its forty 64 × 512 blocks is the weights `w` times
row `h` of the high one-hot of the source block `s`. -/
def stack (s : Vec F S1x1x512 .i32) (w : FVec F S64x512 .f32) : FVec F S2560x512 .f32 :=
  k0_pay29 (k0_pay4 s) w (k0_pay8 w (k0_pay7 s)) (k0_pay9 (k0_pay4 s) w) (k0_pay10 (k0_pay4 s) w) (k0_pay11 (k0_pay4 s) w) (k0_pay12 (k0_pay4 s) w) (k0_pay13 (k0_pay4 s) w) (k0_pay14 (k0_pay4 s) w) (k0_pay15 (k0_pay4 s) w) (k0_pay16 (k0_pay4 s) w) (k0_pay17 (k0_pay4 s) w) (k0_pay18 (k0_pay4 s) w) (k0_pay19 (k0_pay4 s) w) (k0_pay20 (k0_pay4 s) w) (k0_pay21 (k0_pay4 s) w) (k0_pay22 (k0_pay4 s) w) (k0_pay23 (k0_pay4 s) w) (k0_pay24 (k0_pay4 s) w) (k0_pay25 (k0_pay4 s) w) (k0_pay26 (k0_pay4 s) w) (k0_pay27 (k0_pay4 s) w) (k0_pay28 (k0_pay4 s))

/-- What the kernel makes of the accumulators `A`, `D` after its loop: forty blocks of `A / D`
contracted with the rows of `x`, then with `W`, then the bias. -/
def finish (x : Vec F S10240x256 .f32) (A : FVec F S2560x256 .f32) (D : FVec F S64x1 .f32)
    (W : Vec F S256x256 .f32) (b : Vec F S1x256 .f32) : FVec F S64x256 .f32 :=
  k0_pay1
      (k0_pay47 (k0_pay30 x) A (k0_pay37 D)
        (k0_pay44 (k0_pay30 x) A (k0_pay37 D)
          (k0_pay42 (k0_pay30 x) A (k0_pay37 D)
            (k0_pay39 (k0_pay30 x) A (k0_pay37 D) (k0_pay38 (k0_pay30 x) A D)) (k0_pay40 (k0_pay30 x))
            (k0_pay41 A (k0_pay37 D)))
          (k0_pay43 (k0_pay30 x)))
        (k0_pay45 (k0_pay30 x)) (k0_pay46 A (k0_pay37 D)) (constant S64x256 FTy.f32 0#32) W)
      (k0_pay48 b)

/-- Block `k` of a 313 × 1 × 512 array of words. -/
def rowAt (x : Vec F S313x1x512 .i32) (k : Fin 313) : Vec F S1x1x512 .i32 := fun i => x (ix3 k 0 (i 2))

/-- One trip: both accumulators after the edges of the block with sources `s` and targets `d`. -/
def tripVal (v14 : IVec S64x1 32) (v31 : FVec F S64x1 .f32) (v32 : FVec F S40x256 .f32)
    (s d : Vec F S1x1x512 .i32) (acc : FVec F S2560x256 .f32 × FVec F S64x1 .f32) :
    FVec F S2560x256 .f32 × FVec F S64x1 .f32 :=
  (k0_pay36 acc.1 (k0_pay3 s) (stack s (k0_pay5 v14 v31 v32 s d)) (constant S2560x256 FTy.f32 0#32),
    k0_pay6 v14 v31 v32 acc.2 s d)

/-- The accumulators after the first `n` trips over the blocks of `x1` (sources) and `x2` (targets). -/
def runTrips (v14 : IVec S64x1 32) (v31 : FVec F S64x1 .f32) (v32 : FVec F S40x256 .f32)
    (x1 x2 : Vec F S313x1x512 .i32) : ℕ → FVec F S2560x256 .f32 × FVec F S64x1 .f32
  | 0 => (k0_pay34, k0_pay35)
  | n + 1 => if h : n < 313 then
      tripVal v14 v31 v32 (rowAt x1 ⟨n, h⟩) (rowAt x2 ⟨n, h⟩) (runTrips v14 v31 v32 x1 x2 n)
    else runTrips v14 v31 v32 x1 x2 n

/-- The whole body: the block a side writes, from the eight blocks it reads. -/
def sideVal (x0 : Vec F S10240x256 .f32) (x1 x2 : Vec F S313x1x512 .i32) (x3 : Vec F S1x10240 .i32)
    (x4 : Vec F S256x256 .f32) (x5 x6 : Vec F S256x1 .f32) (x7 : Vec F S1x256 .f32) : FVec F S64x256 .f32 :=
  finish x0 (runTrips (k0_pay31 x3) (k0_pay32 x0 x3 x4 x6) (k0_pay33 x0 x4 x5) x1 x2 313).1
    (runTrips (k0_pay31 x3) (k0_pay32 x0 x3 x4 x6) (k0_pay33 x0 x4 x5) x1 x2 313).2 x4 x7

/-- Piece `h` of the stack. -/
def piece (s : Vec F S1x1x512 .i32) (w : FVec F S64x512 .f32) (h : Fin 40) : FVec F S64x512 .f32 :=
  mulf w (broadcastTo S64x512 (extractStridedSlice S1x512 ![h.val, 0] (k0_pay4 s)
    ⟨rfl, fun a => by fin_cases a <;> simp [Shape.size] <;> omega⟩) broadcasts_S1x512_S64x512)

/-- The stack is the concatenation of its forty pieces. -/
theorem stack_eq (s : Vec F S1x1x512 .i32) (w : FVec F S64x512 .f32) (hc) :
    stack s w = concatenate S2560x512 0 (List.ofFn fun h : Fin 40 => (⟨S64x512, piece s w h⟩ : (s : Shape) × (s.Idx → F .f32))) hc := by
  rfl

/-- The stack at row `64 h + g`. -/
theorem stack_apply (s : Vec Ideal S1x1x512 .i32) (w : FVec Ideal S64x512 .f32) (h : Fin 40) (g : Fin 64) (l : Fin 512) :
    stack s w (ix2 (⟨64 * h.val + g.val, by omega⟩ : Fin 2560) l) = w (ix2 g l) * k0_pay4 s (ix2 h l) := by
  have hc : Shape.Concatenates ((List.ofFn fun h : Fin 40 => (⟨S64x512, piece s w h⟩ : (s : Shape) × (s.Idx → Ideal .f32))).map (·.1)) S2560x512 0 := by
    have : ((List.ofFn fun h : Fin 40 => (⟨S64x512, piece s w h⟩ : (s : Shape) × (s.Idx → Ideal .f32))).map (·.1)) = List.replicate 40 S64x512 := by
      simp [List.map_ofFn, Function.comp_def, List.ofFn_const]
    rw [this]; decide
  rw [stack_eq s w hc, concatenate_ofFn_apply (α := Ideal .f32) (t := S2560x512) (s₁ := S64x512) 0 (piece s w) hc rfl 64 rfl _ h (i := ix2 g l)]
  · pointwise [piece]
  · show (64 * h.val + g.val) / 64 = h.val
    omega
  · show g.val = (64 * h.val + g.val) % 64
    omega
  · intro b hb
    fin_cases b
    · exact absurd rfl hb
    · rfl
set_option maxHeartbeats 4000000 in
/-- What is computed after the loop, at an index. -/
theorem finish_apply (x : Vec Ideal S10240x256 .f32) (A : FVec Ideal S2560x256 .f32) (D : FVec Ideal S64x1 .f32)
    (W : Vec Ideal S256x256 .f32) (b : Vec Ideal S1x256 .f32) (g : Fin 64) (c : Fin 256) :
    finish x A D W b (ix2 g c) = (∑ j : Fin 256, (∑ h : Fin 40, ∑ r : Fin 256, Ideal.div (A (ix2 (⟨64 * h.val + g.val, by omega⟩ : Fin 2560) r)) (k0_pay37 D (ix2 g 0)) * x (ix2 (⟨256 * h.val + r.val, by omega⟩ : Fin 10240) j)) * W (ix2 j c)) + b (ix2 0 c) := by
  unfold finish
  pointwise [k0_pay1, k0_pay48, k0_pay47, k0_pay46, k0_pay45, k0_pay44, k0_pay43, k0_pay42, k0_pay41, k0_pay40, k0_pay39, k0_pay38, k0_pay30]
  refine congrArg₂ (· + ·) (Finset.sum_congr rfl fun j _ => congrArg (· * W (ix2 j c)) ?_) rfl
  let T : ℕ → EReal := fun h => if hh : h < 40 then ∑ r : Fin 256, Ideal.div (A (ix2 (⟨64 * h + g.val, by omega⟩ : Fin 2560) r)) (k0_pay37 D (ix2 g 0)) * x (ix2 (⟨256 * h + r.val, by omega⟩ : Fin 10240) j) else 0
  have hT : (∑ h : Fin 40, ∑ r : Fin 256, Ideal.div (A (ix2 (⟨64 * h.val + g.val, by omega⟩ : Fin 2560) r)) (k0_pay37 D (ix2 g 0)) * x (ix2 (⟨256 * h.val + r.val, by omega⟩ : Fin 10240) j)) = ∑ h ∈ Finset.range 40, T h := by
    rw [Finset.sum_range]
    exact Finset.sum_congr rfl fun h _ => by simp only [T]; rw [dif_pos h.isLt]
  rw [hT]
  simp only [Finset.sum_range_succ, Finset.sum_range_zero, zero_add]
  iterate 39 (refine congrArg₂ (· + ·) ?_ ?_; swap; · rfl)
  simp [T]
end Cert.Proof.K
end
-- ==== Proof.Reals.lean ====
module
public import Idealize.ShloMosaic.Lib.Pointwise
@[expose] public section

/-
  Sums, quotients and one-hot words over the real numbers inside the extended reals.
-/

noncomputable section
namespace Cert.Proof
open Idealize.ShloMosaic

/-- The sum of real numbers, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers, read in the extended reals. -/
theorem sum_mul_coe {ι : Type*} [Fintype ι] (f g : ι → ℝ) :
    (∑ i, (f i : EReal) * (g i : EReal)) = ((∑ i, f i * g i : ℝ) : EReal) := by
  rw [coe_sum]; exact Finset.sum_congr rfl fun i _ => (EReal.coe_mul _ _).symm

/-- A quotient of real numbers with a divisor that is not zero. -/
theorem div_real (a b : ℝ) (hb : b ≠ 0) : Ideal.div (a : EReal) (b : EReal) = ((a / b : ℝ) : EReal) := by
  rw [Ideal.div_coe hb, ← EReal.coe_mul]; congr 1; ring

/-- A one-hot entry: 1 where the two words agree and 0 elsewhere. -/
theorem onehot (a b : BitVec 32) :
    FloatOps.sitofp (F := Ideal) FTy.f32 (BitVec.setWidth 32 (IntOp.cmpi CmpIPredicate.eq a b))
      = ((if a = b then (1 : ℝ) else 0 : ℝ) : EReal) := by
  show (((BitVec.setWidth 32 (IntOp.cmpi CmpIPredicate.eq a b)).toInt : ℝ) : EReal) = _
  by_cases h : a = b
  · subst h; simp [IntOp.cmpi]
  · have hb : (a == b) = false := by simpa using h
    simp [IntOp.cmpi, h, hb]

/-- Two words of which one is a small number agree when their numbers do. -/
theorem ofNat_eq_iff (n : ℕ) (hn : n < 2 ^ 32) (b : BitVec 32) : BitVec.ofNat 32 n = b ↔ n = b.toNat := by
  constructor
  · rintro rfl; rw [BitVec.toNat_ofNat]; omega
  · rintro rfl; simp

/-- A one-hot sum picks the entry the word names. -/
theorem sum_onehot {n : ℕ} (f : Fin n → ℝ) (m : ℕ) (hm : m < n) :
    (∑ i : Fin n, (if i.val = m then (1 : ℝ) else 0) * f i) = f ⟨m, hm⟩ := by
  rw [Finset.sum_eq_single (⟨m, hm⟩ : Fin n)]
  · simp
  · intro b _ hb
    have : b.val ≠ m := fun h => hb (Fin.ext h)
    simp [this]
  · simp

/-- The low byte of a word. -/
theorem low_byte (b : BitVec 32) : (IntOp.andi b 255#32).toNat = b.toNat % 256 := by
  show (b &&& 255#32).toNat = _
  rw [BitVec.toNat_and]
  exact Nat.and_two_pow_sub_one_eq_mod b.toNat 8

/-- A small word shifted right by a byte. -/
theorem high_byte (b : BitVec 32) (h : b.toNat < 2 ^ 31) :
    (IntOp.shrsi ArithUnit.vector b 8#32).toNat = b.toNat / 256 := by
  show (if (8#32).toNat < 32 then b.sshiftRight' 8#32 else _).toNat = _
  rw [if_pos (by decide)]
  have hm : b.msb = false := by rw [BitVec.msb_eq_false_iff_two_mul_lt]; omega
  rw [BitVec.sshiftRight_eq', BitVec.sshiftRight_eq_of_msb_false hm]
  simp [Nat.shiftRight_eq_div_pow]

/-- The slope of the leaky rectifier on the negative side: the real number its single-precision constant names. -/
def slope : ℝ := (Ideal.ofBits FTy.f32 1045220557#32).toReal

/-- The slope constant is a real number. -/
theorem slope_eq : Ideal.ofBits FTy.f32 1045220557#32 = (slope : EReal) := by
  unfold slope
  simp [Ideal.ofBits, Ideal.ieee, -EReal.coe_mul]

/-- The leaky rectifier. -/
def leaky (t : ℝ) : ℝ := if 0 < t then t else slope * t

/-- A sum over `a * b` terms as `a` blocks of `b`. -/
theorem sum_blocks {M : Type*} [AddCommMonoid M] (a b n : ℕ) (hn : a * b = n) (f : Fin n → M) :
    (∑ h : Fin a, ∑ r : Fin b, f ⟨b * h.val + r.val, by
      have h1 := h.isLt; have h2 := r.isLt
      calc b * h.val + r.val < b * h.val + b := by omega
        _ = b * (h.val + 1) := by ring
        _ ≤ b * a := Nat.mul_le_mul_left _ h1
        _ = n := by rw [← hn]; ring⟩) = ∑ i : Fin n, f i := by
  subst hn
  rw [← Equiv.sum_comp finProdFinEquiv f, Fintype.sum_prod_type]
  refine Finset.sum_congr rfl fun h _ => Finset.sum_congr rfl fun r _ => congrArg f (Fin.ext ?_)
  simp [finProdFinEquiv]; ring

end Cert.Proof
end
-- ==== Proof.Side.lean ====
module
public import proofs.«01_k».proof.Proof.Payload
public import proofs.«01_k».proof.Proof.Reals
@[expose] public section

/-
  What one side computes (`sideVal`), as a real number, when the float blocks hold real numbers and
  the words of the source block and the selected nodes are small.
-/

set_option maxRecDepth 16384
noncomputable section
namespace Cert.Proof.K
open Cert.KernelIdeal Cert.KernelIdeal.Gen Idealize.ShloMosaic Idealize.ShloMosaic.TcCoe

/-- The attention coefficient of node `n`: its features times the weights times the attention vector. -/
def coef {N : ℕ} (x : Fin N → Fin 256 → ℝ) (W : Fin 256 → Fin 256 → ℝ) (a : Fin 256 → ℝ) (n : Fin N) : ℝ :=
  ∑ k, x n k * ∑ j, W k j * a j

/-- The low one-hot of a source block. -/
theorem pay3_apply (s : Vec Ideal S1x1x512 .i32) (r : Fin 256) (l : Fin 512) :
    k0_pay3 s (ix2 r l) = ((if r.val = (s (ix3 0 0 l)).toNat % 256 then (1 : ℝ) else 0 : ℝ) : EReal) := by
  pointwise [k0_pay3, k0_pay2]
  rw [onehot]
  have h : (BitVec.ofNat 32 r.val = IntOp.andi (s (ix3 0 0 l)) 255#32) ↔ r.val = (s (ix3 0 0 l)).toNat % 256 := by
    rw [ofNat_eq_iff _ (by omega), low_byte]
  simp only [h]

/-- The high one-hot of a source block. -/
theorem pay4_apply (s : Vec Ideal S1x1x512 .i32) (h : Fin 40) (l : Fin 512) (hs : (s (ix3 0 0 l)).toNat < 10240) :
    k0_pay4 s (ix2 h l) = ((if h.val = (s (ix3 0 0 l)).toNat / 256 then (1 : ℝ) else 0 : ℝ) : EReal) := by
  pointwise [k0_pay4, k0_pay2]
  rw [onehot]
  have h : (BitVec.ofNat 32 h.val = IntOp.shrsi ArithUnit.vector (s (ix3 0 0 l)) 8#32) ↔ h.val = (s (ix3 0 0 l)).toNat / 256 := by
    rw [ofNat_eq_iff _ (by omega), high_byte _ (by omega)]
  simp only [h]

/-- Features times weights times an attention vector, read in the extended reals. -/
theorem coef_coe (X : Fin 256 → ℝ) (W : Fin 256 → Fin 256 → ℝ) (a : Fin 256 → ℝ) :
    (∑ k, (X k : EReal) * ∑ j, (W k j : EReal) * (a j : EReal)) = ((∑ k, X k * ∑ j, W k j * a j : ℝ) : EReal) := by
  rw [← sum_mul_coe]
  exact Finset.sum_congr rfl fun k _ => by rw [sum_mul_coe]

/-- The source coefficients, laid out as 40 rows of 256. -/
theorem pay33_apply (x0 : Vec Ideal S10240x256 .f32) (x4 : Vec Ideal S256x256 .f32) (x5 : Vec Ideal S256x1 .f32)
    (x : Fin 10240 → Fin 256 → ℝ) (W : Fin 256 → Fin 256 → ℝ) (a : Fin 256 → ℝ)
    (hx : ∀ n k, x0 (ix2 n k) = (x n k : EReal)) (hW : ∀ k j, x4 (ix2 k j) = (W k j : EReal))
    (ha : ∀ j, x5 (ix2 j 0) = (a j : EReal)) (h : Fin 40) (r : Fin 256) :
    k0_pay33 x0 x4 x5 (ix2 h r) = (coef x W a ⟨256 * h.val + r.val, by omega⟩ : EReal) := by
  pointwise [k0_pay33, k0_pay30]
  simp only [hx, hW, ha]
  rw [coef_coe]
  unfold coef
  have e : (⟨h.val * 256 + r.val, by omega⟩ : Fin 10240) = ⟨256 * h.val + r.val, by omega⟩ := Fin.ext (by simp; ring)
  rw [e]

/-- The target coefficients of the selected nodes. -/
theorem pay32_apply (x0 : Vec Ideal S10240x256 .f32) (x3 : Vec Ideal S1x10240 .i32) (x4 : Vec Ideal S256x256 .f32) (x6 : Vec Ideal S256x1 .f32)
    (x : Fin 10240 → Fin 256 → ℝ) (W : Fin 256 → Fin 256 → ℝ) (a : Fin 256 → ℝ)
    (hx : ∀ n k, x0 (ix2 n k) = (x n k : EReal)) (hW : ∀ k j, x4 (ix2 k j) = (W k j : EReal))
    (ha : ∀ j, x6 (ix2 j 0) = (a j : EReal)) (g : Fin 64) (hg : (k0_pay31 (F := Ideal) x3 (ix2 g 0)).toNat < 10240) :
    k0_pay32 x0 x3 x4 x6 (ix2 g 0) = (coef x W a ⟨(k0_pay31 (F := Ideal) x3 (ix2 g 0)).toNat, hg⟩ : EReal) := by
  pointwise [k0_pay32, k0_pay30]
  simp only [hx, hW, ha, coef_coe, onehot]
  rw [sum_mul_coe]
  rw [← sum_onehot (coef x W a) _ hg]
  refine congrArg _ (Finset.sum_congr rfl fun n _ => ?_)
  simp only [ofNat_eq_iff n.val (by omega)]
  rfl

/-- The weight of an edge with source `s` and target `d` for a graph whose selected node is `sel`. -/
def wt (sel d : BitVec 32) (Ad As : ℝ) : ℝ := if d = sel then Real.exp (leaky (Ad + As)) else 0

/-- The weights of a block of edges. -/
theorem pay5_apply (v14 : IVec S64x1 32) (v31 : FVec Ideal S64x1 .f32) (v32 : FVec Ideal S40x256 .f32)
    (s d : Vec Ideal S1x1x512 .i32) (Ad : Fin 64 → ℝ) (As : Fin 10240 → ℝ)
    (hd : ∀ g, v31 (ix2 g 0) = (Ad g : EReal))
    (ha : ∀ (h : Fin 40) (r : Fin 256), v32 (ix2 h r) = (As ⟨256 * h.val + r.val, by omega⟩ : EReal))
    (g : Fin 64) (l : Fin 512) (hs : (s (ix3 0 0 l)).toNat < 10240) :
    k0_pay5 v14 v31 v32 s d (ix2 g l)
      = (wt (v14 (ix2 g 0)) (d (ix3 0 0 l)) (Ad g) (As ⟨(s (ix3 0 0 l)).toNat, hs⟩) : EReal) := by
  have hA : (∑ h : Fin 40, k0_pay4 s (ix2 h l) * ∑ r : Fin 256, v32 (ix2 h r) * k0_pay3 s (ix2 r l))
      = (As ⟨(s (ix3 0 0 l)).toNat, hs⟩ : EReal) := by
    have e : ∀ h : Fin 40, (∑ r : Fin 256, v32 (ix2 h r) * k0_pay3 s (ix2 r l))
        = (As ⟨256 * h.val + (s (ix3 0 0 l)).toNat % 256, by omega⟩ : EReal) := by
      intro h
      simp only [ha, pay3_apply]
      rw [sum_mul_coe]
      rw [← sum_onehot (fun r : Fin 256 => As ⟨256 * h.val + r.val, by omega⟩) ((s (ix3 0 0 l)).toNat % 256) (by omega)]
      refine congrArg _ (Finset.sum_congr rfl fun r _ => mul_comm _ _)
    simp only [e, pay4_apply s _ l hs]
    rw [sum_mul_coe, sum_onehot (fun h : Fin 40 => As ⟨256 * h.val + (s (ix3 0 0 l)).toNat % 256, by omega⟩)
      ((s (ix3 0 0 l)).toNat / 256) (by omega)]
    refine congrArg _ (congrArg As (Fin.ext ?_))
    show 256 * ((s (ix3 0 0 l)).toNat / 256) + (s (ix3 0 0 l)).toNat % 256 = (s (ix3 0 0 l)).toNat
    omega
  pointwise [k0_pay5]
  rw [hA, hd, slope_eq, ← EReal.coe_add, ← EReal.coe_mul]
  unfold wt leaky
  have hc : ((0 : EReal) < ((Ad g + As ⟨(s (ix3 0 0 l)).toNat, hs⟩ : ℝ) : EReal)) ↔ 0 < Ad g + As ⟨(s (ix3 0 0 l)).toNat, hs⟩ := by
    exact_mod_cast Iff.rfl
  simp only [hc]
  by_cases h1 : d (ix3 0 0 l) = v14 (ix2 g 0)
  · by_cases h2 : 0 < Ad g + As ⟨(s (ix3 0 0 l)).toNat, hs⟩ <;> simp [h1, h2, IntOp.cmpi, Scalar.select, -EReal.coe_add, -EReal.coe_mul]
  · have hb : (d (ix3 0 0 l) == v14 (ix2 g 0)) = false := by simpa using h1
    simp [h1, hb, IntOp.cmpi, Scalar.select]

section
variable (v14 : IVec S64x1 32) (v31 : FVec Ideal S64x1 .f32) (v32 : FVec Ideal S40x256 .f32)
  (x1 x2 : Vec Ideal S313x1x512 .i32) (Ad : Fin 64 → ℝ) (As : Fin 10240 → ℝ)
  (hs : ∀ k l, (x1 (ix3 k 0 l)).toNat < 10240)

/-- The weight of edge `l` of block `k` for graph `g`. -/
def ewt (g : Fin 64) (k : Fin 313) (l : Fin 512) : ℝ :=
  wt (v14 (ix2 g 0)) (x2 (ix3 k 0 l)) (Ad g) (As ⟨(x1 (ix3 k 0 l)).toNat, hs k l⟩)

/-- The sum of the weights after `n` trips, and the weights collected by source node. -/
theorem runTrips_apply (hd : ∀ g, v31 (ix2 g 0) = (Ad g : EReal))
    (ha : ∀ (h : Fin 40) (r : Fin 256), v32 (ix2 h r) = (As ⟨256 * h.val + r.val, by omega⟩ : EReal))
    (n : ℕ) (hn : n ≤ 313) :
    (∀ g : Fin 64, (runTrips v14 v31 v32 x1 x2 n).2 (ix2 g 0)
        = ((∑ k : Fin n, ∑ l, ewt v14 x1 x2 Ad As hs g ⟨k.val, by omega⟩ l : ℝ) : EReal)) ∧
    (∀ (h : Fin 40) (g : Fin 64) (r : Fin 256),
      (runTrips v14 v31 v32 x1 x2 n).1 (ix2 (⟨64 * h.val + g.val, by omega⟩ : Fin 2560) r)
        = ((∑ k : Fin n, ∑ l, ewt v14 x1 x2 Ad As hs g ⟨k.val, by omega⟩ l *
            (if 256 * h.val + r.val = (x1 (ix3 ⟨k.val, by omega⟩ 0 l)).toNat then 1 else 0) : ℝ) : EReal)) := by
  induction n with
  | zero =>
    refine ⟨fun g => ?_, fun h g r => ?_⟩
    · simp only [runTrips]; pointwise [k0_pay35]; simp
    · simp only [runTrips]; pointwise [k0_pay34]; simp
  | succ n ih =>
    obtain ⟨ih2, ih1⟩ := ih (by omega)
    have hw : ∀ (g : Fin 64) (l : Fin 512),
        k0_pay5 v14 v31 v32 (rowAt x1 ⟨n, by omega⟩) (rowAt x2 ⟨n, by omega⟩) (ix2 g l)
          = (ewt v14 x1 x2 Ad As hs g ⟨n, by omega⟩ l : EReal) := by
      intro g l
      exact pay5_apply v14 v31 v32 _ _ Ad As hd ha g l (hs ⟨n, by omega⟩ l)
    refine ⟨fun g => ?_, fun h g r => ?_⟩
    · simp only [runTrips]
      rw [dif_pos (show n < 313 by omega)]
      unfold tripVal
      pointwise [k0_pay6]
      rw [ih2 g, Fin.sum_univ_castSucc (n := n), EReal.coe_add]
      refine congrArg₂ (· + ·) rfl ?_
      rw [coe_sum]
      exact Finset.sum_congr rfl fun l _ => hw g l
    · simp only [runTrips]
      rw [dif_pos (show n < 313 by omega)]
      unfold tripVal
      pointwise [k0_pay36]
      rw [ih1 h g r, Fin.sum_univ_castSucc (n := n), EReal.coe_add]
      refine congrArg₂ (· + ·) rfl ?_
      rw [coe_sum]
      refine Finset.sum_congr rfl fun l _ => ?_
      rw [stack_apply, hw g l, pay3_apply, pay4_apply _ _ _ (hs ⟨n, by omega⟩ l), ← EReal.coe_mul, ← EReal.coe_mul, mul_assoc]
      refine congrArg _ (congrArg₂ (· * ·) rfl ?_)
      show (if h.val = (x1 (ix3 ⟨n, by omega⟩ 0 l)).toNat / 256 then (1 : ℝ) else 0) *
        (if r.val = (x1 (ix3 ⟨n, by omega⟩ 0 l)).toNat % 256 then (1 : ℝ) else 0)
        = if 256 * h.val + r.val = (x1 (ix3 ⟨n, by omega⟩ 0 l)).toNat then (1 : ℝ) else 0
      split_ifs <;> first | omega | norm_num

end

/-- The sum of all weights of graph `g`. -/
def den (v14 : IVec S64x1 32) (x1 x2 : Vec Ideal S313x1x512 .i32) (Ad : Fin 64 → ℝ) (As : Fin 10240 → ℝ)
    (hs : ∀ k l, (x1 (ix3 k 0 l)).toNat < 10240) (g : Fin 64) : ℝ :=
  ∑ k, ∑ l, ewt v14 x1 x2 Ad As hs g k l

/-- The sum of the weights of graph `g` on edges out of node `n`. -/
def num (v14 : IVec S64x1 32) (x1 x2 : Vec Ideal S313x1x512 .i32) (Ad : Fin 64 → ℝ) (As : Fin 10240 → ℝ)
    (hs : ∀ k l, (x1 (ix3 k 0 l)).toNat < 10240) (g : Fin 64) (n : Fin 10240) : ℝ :=
  ∑ k, ∑ l, ewt v14 x1 x2 Ad As hs g k l * (if n.val = (x1 (ix3 k 0 l)).toNat then 1 else 0)

/-- A side's output, as a real number. -/
theorem sideVal_apply (x0 : Vec Ideal S10240x256 .f32) (x1 x2 : Vec Ideal S313x1x512 .i32) (x3 : Vec Ideal S1x10240 .i32)
    (x4 : Vec Ideal S256x256 .f32) (x5 x6 : Vec Ideal S256x1 .f32) (x7 : Vec Ideal S1x256 .f32)
    (x : Fin 10240 → Fin 256 → ℝ) (W : Fin 256 → Fin 256 → ℝ) (a a' : Fin 256 → ℝ)
    (hx : ∀ n k, x0 (ix2 n k) = (x n k : EReal)) (hW : ∀ k j, x4 (ix2 k j) = (W k j : EReal))
    (ha : ∀ j, x5 (ix2 j 0) = (a j : EReal)) (ha' : ∀ j, x6 (ix2 j 0) = (a' j : EReal))
    (hs : ∀ k l, (x1 (ix3 k 0 l)).toNat < 10240)
    (hg : ∀ g : Fin 64, (k0_pay31 (F := Ideal) x3 (ix2 g 0)).toNat < 10240)
    (Ad : Fin 64 → ℝ) (hAd : ∀ g, Ad g = coef x W a' ⟨(k0_pay31 (F := Ideal) x3 (ix2 g 0)).toNat, hg g⟩)
    (g : Fin 64) (c : Fin 256) :
    sideVal x0 x1 x2 x3 x4 x5 x6 x7 (ix2 g c)
      = ((∑ j, (∑ n, num (k0_pay31 (F := Ideal) x3) x1 x2 Ad (coef x W a) hs g n /
            (if den (k0_pay31 (F := Ideal) x3) x1 x2 Ad (coef x W a) hs g = 0 then 1
              else den (k0_pay31 (F := Ideal) x3) x1 x2 Ad (coef x W a) hs g) * x n j) * W j c : ℝ) : EReal)
        + x7 (ix2 0 c) := by
  obtain ⟨h2, h1⟩ := runTrips_apply (k0_pay31 (F := Ideal) x3) (k0_pay32 x0 x3 x4 x6) (k0_pay33 x0 x4 x5) x1 x2 Ad (coef x W a) hs
    (fun g => by rw [hAd]; exact pay32_apply x0 x3 x4 x6 x W a' hx hW ha' g (hg g))
    (fun h r => pay33_apply x0 x4 x5 x W a hx hW ha h r) 313 (le_refl _)
  unfold sideVal
  rw [finish_apply]
  refine congrArg₂ (· + ·) ?_ rfl
  have hD : k0_pay37 (runTrips (k0_pay31 (F := Ideal) x3) (k0_pay32 x0 x3 x4 x6) (k0_pay33 x0 x4 x5) x1 x2 313).2 (ix2 g 0)
      = ((if den (k0_pay31 (F := Ideal) x3) x1 x2 Ad (coef x W a) hs g = 0 then 1
              else den (k0_pay31 (F := Ideal) x3) x1 x2 Ad (coef x W a) hs g : ℝ) : EReal) := by
    pointwise [k0_pay37]
    rw [h2 g]
    show (if ((den (k0_pay31 (F := Ideal) x3) x1 x2 Ad (coef x W a) hs g : ℝ) : EReal) = 0 then (1 : EReal)
      else ((den (k0_pay31 (F := Ideal) x3) x1 x2 Ad (coef x W a) hs g : ℝ) : EReal)) = _
    by_cases h : den (k0_pay31 (F := Ideal) x3) x1 x2 Ad (coef x W a) hs g = 0
    · simp [h]
    · simp [h]
  have hne : (if den (k0_pay31 (F := Ideal) x3) x1 x2 Ad (coef x W a) hs g = 0 then 1
              else den (k0_pay31 (F := Ideal) x3) x1 x2 Ad (coef x W a) hs g) ≠ 0 := by
    split_ifs with h
    · exact one_ne_zero
    · exact h
  rw [hD]
  generalize (if den (k0_pay31 (F := Ideal) x3) x1 x2 Ad (coef x W a) hs g = 0 then 1
              else den (k0_pay31 (F := Ideal) x3) x1 x2 Ad (coef x W a) hs g) = D at hne
  rw [← sum_mul_coe]
  refine Finset.sum_congr rfl fun j _ => congrArg₂ (· * ·) ?_ (hW j c)
  rw [← sum_blocks 40 256 10240 rfl, coe_sum]
  refine Finset.sum_congr rfl fun h _ => ?_
  rw [coe_sum]
  refine Finset.sum_congr rfl fun r _ => ?_
  rw [h1 h g r, hx, div_real _ _ hne, ← EReal.coe_mul]
  rfl

end Cert.Proof.K
end
-- ==== Proof.RefOps.lean ====
/-
  The index operations of the reference, each read at one entry: a scatter-add of one value per edge into the nodes is the
  sum over the edges that point at the node, and a scatter that adds one per node into the graphs counts the nodes of a graph.
-/
module
public import proofs.«01_k».proof.Proof.Gen.ReferenceIdeal.Read
public import Idealize.ShloMosaic.Lib.Pointwise
public import Idealize.ShloMosaic.Lib.Routing.OpsPair
public import Idealize.ShloMosaic.Lib.Routing.OpsSet
@[expose] public section
set_option maxRecDepth 16384
noncomputable section
namespace Cert.Proof.R
open Cert.ReferenceIdeal Cert.ReferenceIdeal.Gen Idealize.ShloMosaic Idealize.ShloMosaic.TcCoe

/-- The update of edge `i` lands at node `n` exactly when the edge's index word is `n`. -/
theorem lands1 (idx : IVec S160000x1 32) (i : Fin 160000) (n : Fin 10000) :
    scatter_S10000_S160000x1_S160000_n_0_0_1.resultIdx? (ix1 i) idx = some (ix1 n) ↔ (idx (ix2 i 0)).toInt = n.val := by
  rw [ix1_eq_valueIdx n, Routing.resultIdx?_ix1]
  have h1 : scatter_S10000_S160000x1_S160000_n_0_0_1.start (ix1 i) idx 0 = (idx (ix2 i 0)).toInt := by
    unfold ScatterDims.start
    rw [dif_pos (by decide)]
    refine congrArg (fun j => (idx j).toInt) ?_
    funext a; fin_cases a <;> rfl
  have h2 : scatter_S10000_S160000x1_S160000_n_0_0_1.window (ix1 i) 0 = 0 := by
    rfl
  rw [h1, h2]; simp
/-- The same for a row of 256 per edge: entry `k` of edge `i` lands at row `n`, column `k`. -/
theorem lands2 (idx : IVec S160000x1 32) (i : Fin 160000) (k : Fin 256) (n : Fin 10000) (c : Fin 256) :
    scatter_S10000x256_S160000x1_S160000x256_1_0_0_1.resultIdx? (ix2 i k) idx = some (ix2 n c) ↔ (idx (ix2 i 0)).toInt = n.val ∧ k = c := by
  rw [ix2_eq_valueIdx n c, Routing.resultIdx?_ix2]
  have h1 : scatter_S10000x256_S160000x1_S160000x256_1_0_0_1.start (ix2 i k) idx 0 = (idx (ix2 i 0)).toInt := by
    unfold ScatterDims.start
    rw [dif_pos (by decide)]
    refine congrArg (fun j => (idx j).toInt) ?_
    funext a; fin_cases a <;> rfl
  have h2 : scatter_S10000x256_S160000x1_S160000x256_1_0_0_1.window (ix2 i k) 0 = 0 := rfl
  have h3 : scatter_S10000x256_S160000x1_S160000x256_1_0_0_1.start (ix2 i k) idx 1 = 0 := rfl
  have h4 : scatter_S10000x256_S160000x1_S160000x256_1_0_0_1.window (ix2 i k) 1 = k.val := rfl
  rw [h1, h2, h3, h4]; simp [Fin.ext_iff]
/-- The update of node `i` lands at graph `n` exactly when the node's index word is `n`. -/
theorem lands3 (idx : IVec S10000x1 32) (i : Fin 10000) (n : Fin 64) :
    scatter_S64_S10000x1_S10000_n_0_0_1.resultIdx? (ix1 i) idx = some (ix1 n) ↔ (idx (ix2 i 0)).toInt = n.val := by
  rw [ix1_eq_valueIdx n, Routing.resultIdx?_ix1]
  have h1 : scatter_S64_S10000x1_S10000_n_0_0_1.start (ix1 i) idx 0 = (idx (ix2 i 0)).toInt := by
    unfold ScatterDims.start
    rw [dif_pos (by decide)]
    refine congrArg (fun j => (idx j).toInt) ?_
    funext a; fin_cases a <;> rfl
  have h2 : scatter_S64_S10000x1_S10000_n_0_0_1.window (ix1 i) 0 = 0 := by
    rfl
  rw [h1, h2]; simp

/-- A scatter-add of one value per edge, at node `n`: the sum over the edges whose word is `n`. -/
theorem scatterAdd1_apply (x : FVec Ideal S10000 .f32) (idx : IVec S160000x1 32) (u : FVec Ideal S160000 .f32) (n : Fin 10000) :
    Host.scatterAdd scatter_S10000_S160000x1_S160000_n_0_0_1 x idx u (ix1 n)
      = (x (ix1 n) + ∑ i : Fin 160000, if (idx (ix2 i 0)).toInt = n.val then u (ix1 i) else (0 : EReal)) := by
  change (x (ix1 n) + ∑ j ∈ Finset.univ.filter (fun j => scatter_S10000_S160000x1_S160000_n_0_0_1.resultIdx? j idx = some (ix1 n)), u j : EReal) = _
  rw [Finset.sum_filter]
  refine congrArg (x (ix1 n) + ·) ?_
  refine (sum_idx1 (n0 := 160000) _).trans (Finset.sum_congr rfl fun i _ => ?_)
  simp only [lands1]

/-- A scatter-add of one row per edge, at node `n` and column `c`: the sum over the edges whose word is `n`. -/
theorem scatterAdd2_apply (x : FVec Ideal S10000x256 .f32) (idx : IVec S160000x1 32) (u : FVec Ideal S160000x256 .f32) (n : Fin 10000) (c : Fin 256) :
    Host.scatterAdd scatter_S10000x256_S160000x1_S160000x256_1_0_0_1 x idx u (ix2 n c)
      = (x (ix2 n c) + ∑ i : Fin 160000, if (idx (ix2 i 0)).toInt = n.val then u (ix2 i c) else (0 : EReal)) := by
  change (x (ix2 n c) + ∑ j ∈ Finset.univ.filter (fun j => scatter_S10000x256_S160000x1_S160000x256_1_0_0_1.resultIdx? j idx = some (ix2 n c)), u j : EReal) = _
  rw [Finset.sum_filter]
  refine congrArg (x (ix2 n c) + ·) ?_
  refine (sum_idx2 (n0 := 160000) (n1 := 256) _).trans (Finset.sum_congr rfl fun i _ => ?_)
  simp only [lands2, ite_and]
  by_cases h : (idx (ix2 i 0)).toInt = n.val
  · simp only [if_pos h, Finset.sum_ite_eq', Finset.mem_univ, if_true]
  · simp only [if_neg h, Finset.sum_const_zero]

/-- A fold that adds one at each step where `P` holds counts those steps. -/
theorem foldl_add_one {ι : Type} (P : ι → Prop) [DecidablePred P] (l : List ι) (z : ℕ) :
    l.foldl (fun a n => if P n then IntOp.addi a 1#32 else a) (BitVec.ofNat 32 z)
      = BitVec.ofNat 32 (z + (l.map fun n => if P n then 1 else 0).sum) := by
  induction l generalizing z with
  | nil => rfl
  | cons n l ih =>
    rw [List.foldl_cons, List.map_cons, List.sum_cons, ← Nat.add_assoc, ← ih]
    refine congrArg (fun a => List.foldl _ a l) ?_
    by_cases h : P n
    · rw [if_pos h, if_pos h]; exact (BitVec.ofNat_add z 1).symm
    · rw [if_neg h, if_neg h, Nat.add_zero]

/-- Scattering a one per node into the graphs counts, at graph `g`, the nodes whose word is `g`. -/
theorem scatterCount_apply (x : IVec S64 32) (idx : IVec S10000x1 32) (u : IVec S10000 32) (hx : ∀ g, x g = 0#32) (hu : ∀ n, u n = 1#32) (g : Fin 64) :
    Host.scatter scatter_S64_S10000x1_S10000_n_0_0_1 IntOp.addi x idx u (ix1 g)
      = BitVec.ofNat 32 (∑ n : Fin 10000, if (idx (ix2 n 0)).toInt = g.val then 1 else 0) := by
  rw [Routing.scatter_at, hx]
  simp only [hu]
  refine (foldl_add_one _ _ 0).trans ?_
  rw [Nat.zero_add, ← Fin.sum_univ_def]
  refine congrArg (BitVec.ofNat 32) ?_
  refine Fintype.sum_equiv (finCongr (Routing.numel1 10000)) _ _ fun n => ?_
  have e := lands3 idx (n.cast (Routing.numel1 10000)) g
  rw [ix1_eq_valueIdx (n.cast (Routing.numel1 10000)), ← Routing.symm1] at e
  exact if_congr e rfl rfl

end Cert.Proof.R
end
-- ==== Proof.RefSide.lean ====
/-
  What the reference computes for one side, read over the reals: the logit of an edge, the attention weight of an edge,
  and the convolution's entry at a node and a column.
-/
module
public import proofs.«01_k».proof.Proof.RefOps
public import proofs.«01_k».proof.Proof.Reals
@[expose] public section
set_option maxRecDepth 16384
noncomputable section
namespace Cert.Proof.R
open Cert.ReferenceIdeal Cert.ReferenceIdeal.Gen Cert.ReferenceIdeal.Read Idealize.ShloMosaic Idealize.ShloMosaic.TcCoe

/-- Entry `c` of node `n`'s projected features. -/
def proj (x : Fin 10000 → Fin 256 → ℝ) (W : Fin 256 → Fin 256 → ℝ) (n : Fin 10000) (c : Fin 256) : ℝ := ∑ k, x n k * W k c

/-- Node `n`'s attention coefficient under the vector `a`. -/
def att (x : Fin 10000 → Fin 256 → ℝ) (W : Fin 256 → Fin 256 → ℝ) (a : Fin 256 → ℝ) (n : Fin 10000) : ℝ := ∑ c, proj x W n c * a c

/-- The projected features are real. -/
theorem v4_apply (x0 : FVec Ideal S10000x256 .f32) (x6 : FVec Ideal S256x256 .f32) (x : Fin 10000 → Fin 256 → ℝ) (W : Fin 256 → Fin 256 → ℝ)
    (hx : ∀ n k, x0 (ix2 n k) = (x n k : EReal)) (hW : ∀ k c, x6 (ix2 k c) = (W k c : EReal)) (n : Fin 10000) (c : Fin 256) :
    val_main_v4 (F := Ideal) x0 x6 (ix2 n c) = (proj x W n c : EReal) := by
  have h : val_main_v4 (F := Ideal) x0 x6 (ix2 n c) = ∑ k : Fin 256, x0 (ix2 n k) * x6 (ix2 k c) := by
    pointwise [val_main_v4]
  rw [h, Finset.sum_congr rfl fun k _ => congrArg₂ (· * ·) (hx n k) (hW k c), sum_mul_coe]
  rfl

/-- A node's coefficient under the source vector is real. -/
theorem v5_apply (x0 : FVec Ideal S10000x256 .f32) (x6 : FVec Ideal S256x256 .f32) (x7 : FVec Ideal S256 .f32) (x : Fin 10000 → Fin 256 → ℝ) (W : Fin 256 → Fin 256 → ℝ)
    (a : Fin 256 → ℝ) (hx : ∀ n k, x0 (ix2 n k) = (x n k : EReal)) (hW : ∀ k c, x6 (ix2 k c) = (W k c : EReal)) (ha : ∀ c, x7 (ix1 c) = (a c : EReal))
    (n : Fin 10000) : val_main_v5 (F := Ideal) x0 x6 x7 (ix1 n) = (att x W a n : EReal) := by
  have h : val_main_v5 (F := Ideal) x0 x6 x7 (ix1 n) = ∑ c : Fin 256, val_main_v4 (F := Ideal) x0 x6 (ix2 n c) * x7 (ix1 c) := by
    pointwise [val_main_v5]
  rw [h, Finset.sum_congr rfl fun c _ => congrArg₂ (· * ·) (v4_apply x0 x6 x W hx hW n c) (ha c), sum_mul_coe]
  rfl

/-- The first row of the edge list. -/
theorem v1_apply (x1 : IVec S2x160000 32) (e : Fin 160000) : val_main_v1 (F := Ideal) x1 (ix1 e) = x1 (ix2 0 e) := by
  pointwise [val_main_v1, val_main_v0]
/-- The second row of the edge list. -/
theorem v3_apply (x1 : IVec S2x160000 32) (e : Fin 160000) : val_main_v3 (F := Ideal) x1 (ix1 e) = x1 (ix2 1 e) := by
  pointwise [val_main_v3, val_main_v2]

/-- An index word that names a node is left as it is by the wrap of negative indices. -/
theorem wrap_node (w k : BitVec 32) (h : w.toNat < 10000) : Scalar.select (IntOp.cmpi .slt w 0#32) k w = w :=
  Routing.wrap_of_lt w k (by simp only [Nat.reducePow, Nat.reduceSub]; omega)

variable (x1 : IVec S2x160000 32) (hE : ∀ r e, (x1 (ix2 r e)).toNat < 10000)

/-- The node an edge comes from. -/
def src (e : Fin 160000) : Fin 10000 := ⟨(x1 (ix2 0 e)).toNat, hE 0 e⟩
/-- The node an edge points at. -/
def dst (e : Fin 160000) : Fin 10000 := ⟨(x1 (ix2 1 e)).toNat, hE 1 e⟩

include hE in
/-- The column of source words, after the wrap. -/
theorem v12_apply (e : Fin 160000) : val_main_v12 (F := Ideal) x1 (ix2 e 0) = BitVec.ofNat 32 (src x1 hE e).val := by
  have h : val_main_v12 (F := Ideal) x1 (ix2 e 0)
      = Scalar.select (IntOp.cmpi .slt (val_main_v1 (F := Ideal) x1 (ix1 e)) 0#32) (val_main_v10 (F := Ideal) x1 (ix1 e)) (val_main_v1 (F := Ideal) x1 (ix1 e)) := by
    pointwise [val_main_v12, val_main_v11, val_main_v8, val_main_v7, val_main_c]
  rw [h, v1_apply, wrap_node _ _ (hE 0 e)]
  simp [src]

include hE in
/-- The column of target words, after the wrap. -/
theorem v19_apply (e : Fin 160000) : val_main_v19 (F := Ideal) x1 (ix2 e 0) = BitVec.ofNat 32 (dst x1 hE e).val := by
  have h : val_main_v19 (F := Ideal) x1 (ix2 e 0)
      = Scalar.select (IntOp.cmpi .slt (val_main_v3 (F := Ideal) x1 (ix1 e)) 0#32) (val_main_v17 (F := Ideal) x1 (ix1 e)) (val_main_v3 (F := Ideal) x1 (ix1 e)) := by
    pointwise [val_main_v19, val_main_v18, val_main_v15, val_main_v14, val_main_c_1]
  rw [h, v3_apply, wrap_node _ _ (hE 1 e)]
  simp [dst]

/-- The column of target words as the scatters read it. -/
theorem v44_toInt (e : Fin 160000) : (val_main_v44 (F := Ideal) x1 (ix2 e 0)).toInt = (dst x1 hE e).val := by
  have h : val_main_v44 (F := Ideal) x1 (ix2 e 0) = val_main_v3 (F := Ideal) x1 (ix1 e) := by
    pointwise [val_main_v44]
  rw [h, v3_apply, StableHlo.Predicate.toInt_eq_toNat_of_lt (by have := hE 1 e; omega)]
  rfl

section
variable (x0 : FVec Ideal S10000x256 .f32) (x6 : FVec Ideal S256x256 .f32) (x7 x8 x9 : FVec Ideal S256 .f32)
  (x : Fin 10000 → Fin 256 → ℝ) (W : Fin 256 → Fin 256 → ℝ) (a a' : Fin 256 → ℝ)
  (hx : ∀ n k, x0 (ix2 n k) = (x n k : EReal)) (hW : ∀ k c, x6 (ix2 k c) = (W k c : EReal))
  (ha : ∀ c, x7 (ix1 c) = (a c : EReal)) (ha' : ∀ c, x8 (ix1 c) = (a' c : EReal))

/-- The logit of an edge. -/
def logit (e : Fin 160000) : ℝ := leaky (att x W a (src x1 hE e) + att x W a' (dst x1 hE e))

include hx hW ha in
/-- The source coefficient of an edge. -/
theorem v13_apply (e : Fin 160000) : val_main_v13 (F := Ideal) x0 x1 x6 x7 (ix1 e) = (att x W a (src x1 hE e) : EReal) := by
  unfold val_main_v13
  refine (Routing.gather_take1 (N := 10000) (n := 160000) _ rfl rfl rfl rfl _ _ e (src x1 hE e) (v12_apply x1 hE e) (by norm_num)).trans ?_
  exact v5_apply x0 x6 x7 x W a hx hW ha _

include hx hW ha' in
/-- The target coefficient of an edge. -/
theorem v20_apply (e : Fin 160000) : val_main_v20 (F := Ideal) x0 x1 x6 x8 (ix1 e) = (att x W a' (dst x1 hE e) : EReal) := by
  unfold val_main_v20
  refine (Routing.gather_take1 (N := 10000) (n := 160000) _ rfl rfl rfl rfl _ _ e (dst x1 hE e) (v19_apply x1 hE e) (by norm_num)).trans ?_
  exact v5_apply x0 x6 x8 x W a' hx hW ha' _

include hx hW ha ha' in
/-- The reference's logit of an edge is real. -/
theorem v26_apply (e : Fin 160000) : val_main_v26 (F := Ideal) x0 x1 x6 x7 x8 (ix1 e) = (logit x1 hE x W a a' e : EReal) := by
  have h : val_main_v26 (F := Ideal) x0 x1 x6 x7 x8 (ix1 e)
      = if (0 : EReal) < val_main_v13 (F := Ideal) x0 x1 x6 x7 (ix1 e) + val_main_v20 (F := Ideal) x0 x1 x6 x8 (ix1 e)
        then (val_main_v13 (F := Ideal) x0 x1 x6 x7 (ix1 e) + val_main_v20 (F := Ideal) x0 x1 x6 x8 (ix1 e) : EReal)
        else Ideal.ofBits .f32 1045220557#32 * (val_main_v13 (F := Ideal) x0 x1 x6 x7 (ix1 e) + val_main_v20 (F := Ideal) x0 x1 x6 x8 (ix1 e)) := by
    pointwise [val_main_v26, val_main_v25, val_main_v24, val_main_v23, val_main_v22, val_main_v21, val_main_cst, val_main_cst_3]
  rw [h, v13_apply x1 hE x0 x6 x7 x W a hx hW ha, v20_apply x1 hE x0 x6 x8 x W a' hx hW ha', slope_eq, ← EReal.coe_add, ← EReal.coe_mul]
  unfold logit leaky
  generalize att x W a (src x1 hE e) + att x W a' (dst x1 hE e) = t
  have hc : ((0 : EReal) < (t : EReal)) ↔ 0 < t := by exact_mod_cast Iff.rfl
  by_cases ht : 0 < t
  · rw [if_pos (hc.2 ht), if_pos ht]
  · rw [if_neg (fun q => ht (hc.1 q)), if_neg ht]

/-- The largest logit among the edges that point at a node is real when there is such an edge. -/
theorem fold_max_coe {ι : Type} [DecidableEq ι] (s : Finset ι) (f : ι → EReal) (hf : ∀ i ∈ s, f i ≠ ⊤) (i0 : ι) (h0 : i0 ∈ s) (hb : f i0 ≠ ⊥) :
    ((s.fold max ⊥ f).toReal : EReal) = s.fold max ⊥ f := by
  refine EReal.coe_toReal ?_ ?_
  · refine ne_of_lt ((Finset.fold_max_lt ⊤).2 ⟨bot_lt_top, fun i hi => lt_top_iff_ne_top.2 (hf i hi)⟩)
  · refine ne_of_gt ((bot_lt_iff_ne_bot.2 hb).trans_le ((Finset.le_fold_max _).2 (Or.inr ⟨i0, h0, le_rfl⟩)))

/-- The word of minus infinity is the least extended real. -/
theorem neg_inf : Ideal.ofBits FTy.f32 4286578688#32 = (⊥ : EReal) := by
  simp [Ideal.ofBits, Ideal.ieee]

/-- The fill of the masked logits is the least extended real. -/
theorem fill_eq : val_main_call1_v0 (F := Ideal) ix0 = (⊥ : EReal) := by
  change Ideal.ofBits FTy.f32 4286578688#32 = (⊥ : EReal)
  exact neg_inf

/-- A choice by whether two words agree. -/
theorem select_eq {α : Type} (p q : BitVec 32) (u v : α) : Scalar.select (IntOp.cmpi .eq p q) u v = if p = q then u else v := by
  by_cases h : p = q
  · simp [Scalar.select, IntOp.cmpi, h]
  · rw [if_neg h]; simp [Scalar.select, IntOp.cmpi, beq_eq_false_iff_ne.2 h]

include hx hW ha ha' in
/-- The running maximum at the node an edge points at is real. -/
theorem v33_coe (e : Fin 160000) :
    ((val_main_v33 (F := Ideal) x0 x1 x6 x7 x8 (ix1 (dst x1 hE e))).toReal : EReal) = val_main_v33 (F := Ideal) x0 x1 x6 x7 x8 (ix1 (dst x1 hE e)) := by
  have h : val_main_v33 (F := Ideal) x0 x1 x6 x7 x8 (ix1 (dst x1 hE e))
      = Finset.univ.fold max (⊥ : EReal) fun i : Fin 160000 => if BitVec.ofNat 32 (dst x1 hE e).val = val_main_v3 (F := Ideal) x1 (ix1 i)
          then val_main_v26 (F := Ideal) x0 x1 x6 x7 x8 (ix1 i) else (⊥ : EReal) := by
    pointwise [val_main_v33, val_main_v32, val_main_v30, val_main_v29, val_main_v28, val_main_v27, val_main_v31, val_main_call1_v1, val_main_call1_v2, val_main_cst_5]
    rw [neg_inf]
    refine congrArg (fun f => Finset.fold max (⊥ : EReal) f Finset.univ) (funext fun i => ?_)
    rw [fill_eq]
    exact select_eq _ _ _ _
  rw [h]
  refine fold_max_coe _ _ (fun i _ => ?_) e (Finset.mem_univ e) ?_
  · by_cases q : BitVec.ofNat 32 (dst x1 hE e).val = val_main_v3 (F := Ideal) x1 (ix1 i)
    · rw [if_pos q, v26_apply x1 hE x0 x6 x7 x8 x W a a' hx hW ha ha']; exact EReal.coe_ne_top _
    · rw [if_neg q]; exact bot_ne_top
  · rw [if_pos (by rw [v3_apply]; simp [dst]), v26_apply x1 hE x0 x6 x7 x8 x W a a' hx hW ha ha']; exact EReal.coe_ne_bot _

/-- The real number subtracted from the logits of the edges that point at a node. -/
def shift (n : Fin 10000) : ℝ := (val_main_v33 (F := Ideal) x0 x1 x6 x7 x8 (ix1 n)).toReal

include hx hW ha ha' in
/-- The exponential of an edge's shifted logit. -/
theorem v42_apply (e : Fin 160000) : val_main_v42 (F := Ideal) x0 x1 x6 x7 x8 (ix1 e)
    = (Real.exp (logit x1 hE x W a a' e - shift x1 x0 x6 x7 x8 (dst x1 hE e)) : EReal) := by
  have h : val_main_v42 (F := Ideal) x0 x1 x6 x7 x8 (ix1 e)
      = Ideal.exp (val_main_v26 (F := Ideal) x0 x1 x6 x7 x8 (ix1 e) - val_main_v40 (F := Ideal) x0 x1 x6 x7 x8 (ix1 e) : EReal) := rfl
  have h40 : val_main_v40 (F := Ideal) x0 x1 x6 x7 x8 (ix1 e) = (shift x1 x0 x6 x7 x8 (dst x1 hE e) : EReal) := by
    unfold val_main_v40
    refine (Routing.gather_take1 (N := 10000) (n := 160000) _ rfl rfl rfl rfl _ _ e (dst x1 hE e) (v19_apply x1 hE e) (by norm_num)).trans ?_
    exact (v33_coe x1 hE x0 x6 x7 x8 x W a a' hx hW ha ha' e).symm
  rw [h, h40, v26_apply x1 hE x0 x6 x7 x8 x W a a' hx hW ha ha', ← EReal.coe_sub, Ideal.exp_coe]

/-- The sum of the shifted exponentials at a node. -/
def tot (n : Fin 10000) : ℝ :=
  ∑ i : Fin 160000, if dst x1 hE i = n then Real.exp (logit x1 hE x W a a' i - shift x1 x0 x6 x7 x8 n) else 0

include hx hW ha ha' in
/-- The reference's denominators. -/
theorem v45_apply (n : Fin 10000) : val_main_v45 (F := Ideal) x0 x1 x6 x7 x8 (ix1 n) = (tot x1 hE x0 x6 x7 x8 x W a a' n : EReal) := by
  unfold val_main_v45
  rw [scatterAdd1_apply, show val_main_v43 (F := Ideal) (ix1 n) = (0 : EReal) from Ideal.ofBits_zero_f32, zero_add]
  unfold tot
  rw [coe_sum]
  refine Finset.sum_congr rfl fun i _ => ?_
  rw [v44_toInt x1 hE, v42_apply x1 hE x0 x6 x7 x8 x W a a' hx hW ha ha']
  by_cases q : dst x1 hE i = n
  · rw [if_pos (by rw [q]), if_pos q, q]
  · rw [if_neg (fun r => q (Fin.ext (by exact_mod_cast r))), if_neg q]; rfl

/-- The attention weight of an edge: its exponential over the sum of the exponentials at the node it points at. -/
def alpha (e : Fin 160000) : ℝ :=
  Real.exp (logit x1 hE x W a a' e) / ∑ i : Fin 160000, if dst x1 hE i = dst x1 hE e then Real.exp (logit x1 hE x W a a' i) else 0

/-- The weight does not depend on the shift. -/
theorem alpha_eq (e : Fin 160000) (M : ℝ) :
    Real.exp (logit x1 hE x W a a' e - M) / (∑ i : Fin 160000, if dst x1 hE i = dst x1 hE e then Real.exp (logit x1 hE x W a a' i - M) else 0)
      = alpha x1 hE x W a a' e := by
  have h : (∑ i : Fin 160000, if dst x1 hE i = dst x1 hE e then Real.exp (logit x1 hE x W a a' i - M) else 0)
      = (∑ i : Fin 160000, if dst x1 hE i = dst x1 hE e then Real.exp (logit x1 hE x W a a' i) else 0) * Real.exp (-M) := by
    rw [Finset.sum_mul]
    refine Finset.sum_congr rfl fun i _ => ?_
    rw [ite_mul, zero_mul, ← Real.exp_add, sub_eq_add_neg]
  rw [h, sub_eq_add_neg, Real.exp_add, mul_div_mul_right _ _ (Real.exp_ne_zero _)]
  rfl

include hx hW ha ha' in
/-- The reference's attention weight of an edge. -/
theorem v53_apply (e : Fin 160000) : val_main_v53 (F := Ideal) x0 x1 x6 x7 x8 (ix1 e) = (alpha x1 hE x W a a' e : EReal) := by
  have h52 : val_main_v52 (F := Ideal) x0 x1 x6 x7 x8 (ix1 e) = (tot x1 hE x0 x6 x7 x8 x W a a' (dst x1 hE e) : EReal) := by
    unfold val_main_v52
    refine (Routing.gather_take1 (N := 10000) (n := 160000) _ rfl rfl rfl rfl _ _ e (dst x1 hE e) (v19_apply x1 hE e) (by norm_num)).trans ?_
    exact v45_apply x1 hE x0 x6 x7 x8 x W a a' hx hW ha ha' _
  have hpos : 0 < tot x1 hE x0 x6 x7 x8 x W a a' (dst x1 hE e) := by
    unfold tot
    refine lt_of_lt_of_le (Real.exp_pos (logit x1 hE x W a a' e - shift x1 x0 x6 x7 x8 (dst x1 hE e))) ?_
    refine le_trans (le_of_eq (if_pos rfl).symm) (Finset.single_le_sum (f := fun i => if dst x1 hE i = dst x1 hE e then Real.exp (logit x1 hE x W a a' i - shift x1 x0 x6 x7 x8 (dst x1 hE e)) else 0) (fun i _ => ?_) (Finset.mem_univ e))
    split
    · exact (Real.exp_pos _).le
    · exact le_rfl
  have h : val_main_v53 (F := Ideal) x0 x1 x6 x7 x8 (ix1 e)
      = Ideal.div (val_main_v42 (F := Ideal) x0 x1 x6 x7 x8 (ix1 e)) (val_main_v52 (F := Ideal) x0 x1 x6 x7 x8 (ix1 e)) := by
    pointwise [val_main_v53]
  rw [h, h52, v42_apply x1 hE x0 x6 x7 x8 x W a a' hx hW ha ha', div_real _ _ hpos.ne']
  exact congrArg _ (alpha_eq x1 hE x W a a' e _)

/-- The attention-weighted sum, at node `n` and column `c`, of the projected features of the edges' sources. -/
def conv (n : Fin 10000) (c : Fin 256) : ℝ :=
  ∑ e : Fin 160000, if dst x1 hE e = n then alpha x1 hE x W a a' e * proj x W (src x1 hE e) c else 0

include hx hW ha ha' in
/-- The reference's convolution at node `n` and column `c`, before the bias. -/
theorem v66_apply (n : Fin 10000) (c : Fin 256) : val_main_v66 (F := Ideal) x0 x1 x6 x7 x8 (ix2 n c) = (conv x1 hE x W a a' n c : EReal) := by
  unfold val_main_v66
  rw [scatterAdd2_apply, show val_main_v64 (F := Ideal) (ix2 n c) = (0 : EReal) from Ideal.ofBits_zero_f32, zero_add]
  unfold conv
  rw [coe_sum]
  refine Finset.sum_congr rfl fun e _ => ?_
  have h63 : val_main_v63 (F := Ideal) x0 x1 x6 x7 x8 (ix2 e c) = (alpha x1 hE x W a a' e * proj x W (src x1 hE e) c : EReal) := by
    have h : val_main_v63 (F := Ideal) x0 x1 x6 x7 x8 (ix2 e c)
        = (val_main_v53 (F := Ideal) x0 x1 x6 x7 x8 (ix1 e) * val_main_v61 (F := Ideal) x0 x1 x6 (ix2 e c) : EReal) := by
      pointwise [val_main_v63, val_main_v62, val_main_v54]
    have h61 : val_main_v61 (F := Ideal) x0 x1 x6 (ix2 e c) = (proj x W (src x1 hE e) c : EReal) := by
      unfold val_main_v61
      refine (Routing.gather_row (nb := 10000) (n := 160000) (B := 256) _ rfl rfl rfl rfl rfl _ _ e c (src x1 hE e) (v12_apply x1 hE e) (by norm_num)).trans ?_
      exact v4_apply x0 x6 x W hx hW _ c
    rw [h, h61, v53_apply x1 hE x0 x6 x7 x8 x W a a' hx hW ha ha']
  rw [show (val_main_v65 (F := Ideal) x1 (ix2 e 0)).toInt = (dst x1 hE e).val from v44_toInt x1 hE e, h63]
  by_cases q : dst x1 hE e = n
  · rw [if_pos (by rw [q]), if_pos q, EReal.coe_mul]
  · rw [if_neg (fun r => q (Fin.ext (by exact_mod_cast r))), if_neg q]; rfl
end

end Cert.Proof.R
end
-- ==== Proof.RefSel.lean ====
/-
  The node the reference selects for a graph: the number of nodes whose graph word is at most the graph's number, less one;
  and the row of the convolution, with the bias, gathered at that node.
-/
module
public import proofs.«01_k».proof.Proof.RefSide
@[expose] public section
set_option maxRecDepth 16384
noncomputable section
namespace Cert.Proof.R
open Cert.ReferenceIdeal Cert.ReferenceIdeal.Gen Cert.ReferenceIdeal.Read Idealize.ShloMosaic Idealize.ShloMosaic.TcCoe

/-- The number of nodes whose graph number is at most `g`. -/
def cnt (b : Fin 10000 → ℕ) (g : ℕ) : ℕ := ∑ n, if b n ≤ g then 1 else 0

/-- At most all nodes are counted. -/
theorem cnt_le (b : Fin 10000 → ℕ) (g : ℕ) : cnt b g ≤ 10000 := by
  unfold cnt
  refine (Finset.sum_le_card_nsmul _ _ 1 fun n _ => ?_).trans (by simp)
  split <;> omega

/-- A node of graph 0 is counted for every graph. -/
theorem cnt_pos (b : Fin 10000 → ℕ) (g : ℕ) (n : Fin 10000) (h : b n = 0) : 1 ≤ cnt b g := by
  unfold cnt
  refine le_trans (le_of_eq (if_pos (by omega : b n ≤ g)).symm) (Finset.single_le_sum (f := fun i => if b i ≤ g then 1 else 0) (fun i _ => Nat.zero_le _) (Finset.mem_univ n))

/-- Adding the nodes of each graph up to `g` counts the nodes whose graph number is at most `g`. -/
theorem sum_hist (b : Fin 10000 → ℕ) (g : ℕ) : ((List.range (g + 1)).map fun k => ∑ n, if b n = k then 1 else 0).sum = cnt b g := by
  rw [← List.sum_toFinset _ List.nodup_range, List.toFinset_range, Finset.sum_comm]
  unfold cnt
  refine Finset.sum_congr rfl fun n _ => ?_
  rw [Finset.sum_ite_eq]
  exact if_congr (Finset.mem_range.trans Nat.lt_succ_iff) rfl rfl

variable (x2 : IVec S10000 32) (hB : ∀ n, (x2 (ix1 n)).toNat < 2 ^ 31)

include hB in
/-- The histogram of the graph words. -/
theorem v73_apply (g : Fin 64) : val_main_v73 (F := Ideal) x2 (ix1 g) = BitVec.ofNat 32 (∑ n : Fin 10000, if (x2 (ix1 n)).toNat = g.val then 1 else 0) := by
  unfold val_main_v73
  refine (scatterCount_apply _ _ _ (fun g => by pointwise [val_main_v71, val_main_c_15]) (fun n => by pointwise [val_main_v70, val_main_c_14]) g).trans ?_
  refine congrArg _ (Finset.sum_congr rfl fun n _ => ?_)
  have h : val_main_v72 (F := Ideal) x2 (ix2 n 0) = x2 (ix1 n) := by pointwise [val_main_v72]
  rw [h, StableHlo.Predicate.toInt_eq_toNat_of_lt (by have := hB n; omega)]
  generalize (x2 (ix1 n)).toNat = t
  by_cases q : t = g.val
  · rw [if_pos q, if_pos (by rw [q])]
  · rw [if_neg q, if_neg (fun r => q (by exact_mod_cast r))]

include hB in
/-- Its running sum. -/
theorem v74_apply (g : Fin 64) : val_main_v74 (F := Ideal) x2 (ix1 g) = BitVec.ofNat 32 (cnt (fun n => (x2 (ix1 n)).toNat) g) := by
  unfold val_main_v74
  refine (Routing.cumsum1 (N := 64) (Nm1 := 63) rfl _ (fun k => ∑ n : Fin 10000, if (x2 (ix1 n)).toNat = k then 1 else 0) (fun i => v73_apply x2 hB i) _ rfl _ _ g).trans ?_
  exact congrArg _ (sum_hist _ _)

variable (hZ : ∃ n, x2 (ix1 n) = 0#32)

/-- The node selected for a graph. -/
def sel (g : Fin 64) : Fin 10000 := ⟨cnt (fun n => (x2 (ix1 n)).toNat) g - 1, by have := cnt_le (fun n => (x2 (ix1 n)).toNat) g; omega⟩

include hB hZ in
/-- The column of selected nodes. -/
theorem v82_apply (g : Fin 64) : val_main_v82 (F := Ideal) x2 (ix2 g 0) = BitVec.ofNat 32 (sel x2 g).val := by
  have h76 : val_main_v76 (F := Ideal) x2 (ix1 g) = BitVec.ofNat 32 (sel x2 g).val := by
    have h : val_main_v76 (F := Ideal) x2 (ix1 g) = IntOp.subi (val_main_v74 (F := Ideal) x2 (ix1 g)) 1#32 := rfl
    obtain ⟨n, hn⟩ := hZ
    rw [h, v74_apply x2 hB]
    refine StableHlo.Predicate.sub_one_ofNat (cnt (fun n => (x2 (ix1 n)).toNat) g) (cnt_pos _ _ n (by rw [hn]; rfl)) ?_
    have := cnt_le (fun n => (x2 (ix1 n)).toNat) g
    omega
  have h : val_main_v82 (F := Ideal) x2 (ix2 g 0)
      = Scalar.select (IntOp.cmpi .slt (val_main_v76 (F := Ideal) x2 (ix1 g)) 0#32) (val_main_v80 (F := Ideal) x2 (ix1 g)) (val_main_v76 (F := Ideal) x2 (ix1 g)) := by
    pointwise [val_main_v82, val_main_v81, val_main_v78, val_main_v77, val_main_c_17]
  rw [h, h76, wrap_node]
  have := (sel x2 g).isLt
  rw [BitVec.toNat_ofNat, Nat.mod_eq_of_lt (by omega)]
  exact this

variable (x1 : IVec S2x160000 32) (hE : ∀ r e, (x1 (ix2 r e)).toNat < 10000)
  (x0 : FVec Ideal S10000x256 .f32) (x6 : FVec Ideal S256x256 .f32) (x7 x8 x9 : FVec Ideal S256 .f32)
  (x : Fin 10000 → Fin 256 → ℝ) (W : Fin 256 → Fin 256 → ℝ) (a a' : Fin 256 → ℝ)
  (hx : ∀ n k, x0 (ix2 n k) = (x n k : EReal)) (hW : ∀ k c, x6 (ix2 k c) = (W k c : EReal))
  (ha : ∀ c, x7 (ix1 c) = (a c : EReal)) (ha' : ∀ c, x8 (ix1 c) = (a' c : EReal))

include hB hZ hx hW ha ha' in
/-- The row gathered for a graph: the convolution at its selected node, with the bias. -/
theorem v83_apply (g : Fin 64) (c : Fin 256) : val_main_v83 (F := Ideal) x0 x1 x2 x6 x7 x8 x9 (ix2 g c)
    = ((conv x1 hE x W a a' (sel x2 g) c : EReal) + x9 (ix1 c) : EReal) := by
  unfold val_main_v83
  refine (Routing.gather_row (nb := 10000) (n := 64) (B := 256) _ rfl rfl rfl rfl rfl _ _ g c (sel x2 g) (v82_apply x2 hB hZ g) (by norm_num)).trans ?_
  have h : val_main_v69 (F := Ideal) x0 x1 x6 x7 x8 x9 (ix2 (sel x2 g) c)
      = (val_main_v66 (F := Ideal) x0 x1 x6 x7 x8 (ix2 (sel x2 g) c) + x9 (ix1 c) : EReal) := by
    pointwise [val_main_v69, val_main_v68, val_main_v67]
  refine Eq.trans h ?_
  rw [v66_apply x1 hE x0 x6 x7 x8 x W a a' hx hW ha ha']

include hB hZ hx hW ha ha' in
/-- The side's activation: the logistic function of that row. -/
theorem v89_apply (g : Fin 64) (c : Fin 256) : val_main_v89 (F := Ideal) x0 x1 x2 x6 x7 x8 x9 (ix2 g c)
    = Ideal.logistic ((conv x1 hE x W a a' (sel x2 g) c : EReal) + x9 (ix1 c) : EReal) := by
  rw [← v83_apply x2 hB hZ x1 hE x0 x6 x7 x8 x9 x W a a' hx hW ha ha']
  have h : val_main_v89 (F := Ideal) x0 x1 x2 x6 x7 x8 x9 (ix2 g c)
      = Ideal.div (Ideal.ofBits .f32 0x3F800000#32) (Ideal.ofBits .f32 0x3F800000#32 + Ideal.exp (-(val_main_v83 (F := Ideal) x0 x1 x2 x6 x7 x8 x9 (ix2 g c))) : EReal) := by
    pointwise [val_main_v89, val_main_v88, val_main_v87, val_main_v86, val_main_v85, val_main_v84, val_main_cst_19, val_main_cst_20]
  rw [h, Ideal.ofBits_one_f32]
  rfl

/-- The other side is the same function of its own arguments. -/
theorem v179_eq : val_main_v179 (F := Ideal) x0 x1 x2 x6 x7 x8 x9 = val_main_v89 (F := Ideal) x0 x1 x2 x6 x7 x8 x9 := rfl

end Cert.Proof.R
end
-- ==== Proof.KernelSide.lean ====
/-
  One side of the kernel against the same side of the reference: on the padded arrays the kernel reads, the side's 64 by 256
  value is the reference's convolution at the selected nodes, with the bias.
-/
module
public import proofs.«01_k».proof.Proof.Side
public import proofs.«01_k».proof.Proof.RefSel
@[expose] public section
set_option maxRecDepth 16384
noncomputable section
namespace Cert.Proof
open Cert.KernelIdeal Cert.KernelIdeal.Gen Idealize.ShloMosaic Idealize.ShloMosaic.TcCoe

/-- A sum over the 313 blocks of 512 padded edges, when the padding adds nothing, is the sum over the edges. -/
theorem sum_edges (f : Fin 313 → Fin 512 → ℝ) (G : Fin 160000 → ℝ)
    (h1 : ∀ (e : Fin 160000) k l, 512 * k.val + l.val = e.val → f k l = G e)
    (h2 : ∀ k l, 160000 ≤ 512 * k.val + l.val → f k l = 0) : (∑ k, ∑ l, f k l) = ∑ e, G e := by
  have h := sum_blocks (M := ℝ) 313 512 (160000 + 256) (by norm_num) (fun i => f ⟨i.val / 512, by omega⟩ ⟨i.val % 512, by omega⟩)
  have hl : (∑ k, ∑ l, f k l) = ∑ i : Fin (160000 + 256), f ⟨i.val / 512, by omega⟩ ⟨i.val % 512, by omega⟩ := by
    rw [← h]
    refine Finset.sum_congr rfl fun k _ => Finset.sum_congr rfl fun l _ => ?_
    exact congrArg₂ f (Fin.ext (by show k.val = (512 * k.val + l.val) / 512; omega)) (Fin.ext (by show l.val = (512 * k.val + l.val) % 512; omega))
  rw [hl, Fin.sum_univ_add]
  refine (congrArg₂ (· + ·) (Finset.sum_congr rfl fun e _ => h1 e _ _ ?_) (Finset.sum_eq_zero fun i _ => h2 _ _ ?_)).trans (add_zero _)
  · show 512 * (e.val / 512) + e.val % 512 = e.val
    omega
  · show 160000 ≤ 512 * ((160000 + i.val) / 512) + (160000 + i.val) % 512
    omega

/-- The kernel's count of the nodes whose graph word is at most `g`, less one, is the reference's selected node. -/
theorem pay31_toNat (X3 : Vec Ideal S1x10240 .i32) (x2 : IVec Cert.ReferenceIdeal.S10000 32) (hB : ∀ n, (x2 (ix1 n)).toNat < 2 ^ 31)
    (hZ : ∃ n, x2 (ix1 n) = 0#32)
    (hX3 : ∀ n : Fin 10240, X3 (ix2 0 n) = if h : n.val < 10000 then x2 (ix1 ⟨n.val, h⟩) else 64#32) (g : Fin 64) :
    k0_pay31 (F := Ideal) X3 (ix2 g 0) = BitVec.ofNat 32 (R.sel x2 g).val := by
  have h : k0_pay31 (F := Ideal) X3 (ix2 g 0) = IntOp.maxsi (IntOp.subi (Finset.fold IntOp.addi 0#32
      (fun x : Fin 10240 => BitVec.setWidth 32 (IntOp.cmpi .sle (X3 (ix2 0 x)) (BitVec.ofNat 32 g.val))) Finset.univ) 1#32) 0#32 := by
    pointwise [k0_pay31]
  have hfold : ∀ (s : Finset (Fin 10240)) (t : Fin 10240 → ℕ), s.fold IntOp.addi 0#32 (fun x => BitVec.ofNat 32 (t x)) = BitVec.ofNat 32 (∑ x ∈ s, t x) := by
    intro s t
    induction s using Finset.induction_on with
    | empty => rfl
    | insert x s hx ih => rw [Finset.fold_insert hx, ih, Finset.sum_insert hx]; exact (BitVec.ofNat_add _ _).symm
  have hbit : (fun x : Fin 10240 => BitVec.setWidth 32 (IntOp.cmpi .sle (X3 (ix2 0 x)) (BitVec.ofNat 32 g.val)))
      = fun x => BitVec.ofNat 32 (if h : x.val < 10000 then (if (x2 (ix1 ⟨x.val, h⟩)).toNat ≤ g.val then 1 else 0) else 0) := by
    funext x
    have hle : ∀ w : BitVec 32, w.toNat < 2 ^ 31 → BitVec.setWidth 32 (IntOp.cmpi .sle w (BitVec.ofNat 32 g.val)) = BitVec.ofNat 32 (if w.toNat ≤ g.val then 1 else 0) := by
      intro w hw
      have hg := g.isLt
      have e1 := StableHlo.Predicate.toInt_eq_toNat_of_lt hw
      have e2 := StableHlo.Predicate.toInt_ofNat_small g.val (by omega)
      have e : IntOp.cmpi .sle w (BitVec.ofNat 32 g.val) = BitVec.ofBool (decide (w.toNat ≤ g.val)) := by
        show BitVec.ofBool (BitVec.sle w (BitVec.ofNat 32 g.val)) = _
        rw [BitVec.sle, e1, e2]
        simp
      rw [e]
      by_cases q : w.toNat ≤ g.val <;> simp [q]
    rw [hX3]
    by_cases hx : x.val < 10000
    · rw [dif_pos hx, dif_pos hx, hle _ (hB _)]
    · rw [dif_neg hx, dif_neg hx, hle _ (by decide)]
      rw [if_neg (by have := g.isLt; simp)]
  have hcnt : (∑ x : Fin 10240, if h : x.val < 10000 then (if (x2 (ix1 ⟨x.val, h⟩)).toNat ≤ g.val then 1 else 0) else 0) = R.cnt (fun n => (x2 (ix1 n)).toNat) g := by
    refine (Fin.sum_univ_add (a := 10000) (b := 240) (fun x : Fin (10000 + 240) => if h : x.val < 10000 then (if (x2 (ix1 ⟨x.val, h⟩)).toNat ≤ g.val then 1 else 0) else 0)).trans ?_
    refine (congrArg₂ (· + ·) (Finset.sum_congr rfl fun n _ => dif_pos n.isLt) (Finset.sum_eq_zero fun n _ => dif_neg ?_)).trans (add_zero _)
    show ¬ 10000 + n.val < 10000
    omega
  obtain ⟨n, hn⟩ := hZ
  have hle := R.cnt_le (fun n => (x2 (ix1 n)).toNat) g
  have hpos := R.cnt_pos (fun n => (x2 (ix1 n)).toNat) g n (by rw [hn]; rfl)
  rw [h, hbit, hfold, hcnt]
  have hs := StableHlo.Predicate.sub_one_ofNat _ hpos (by omega)
  have hsel := (R.sel x2 g).isLt
  have hm : IntOp.maxsi (BitVec.ofNat 32 (R.sel x2 g).val) 0#32 = BitVec.ofNat 32 (R.sel x2 g).val := by
    have e2 := StableHlo.Predicate.toInt_ofNat_small (R.sel x2 g).val (by omega)
    unfold IntOp.maxsi
    rw [BitVec.slt, e2]
    by_cases q : (R.sel x2 g).val = 0
    · rw [q]; rfl
    · rw [if_pos (by rw [decide_eq_true_eq]; show (0 : Int) < _; omega)]
  exact (congrArg (fun w => IntOp.maxsi w 0#32) hs).trans hm

section
variable (x0 : FVec Ideal Cert.ReferenceIdeal.S10000x256 .f32) (x1 : IVec Cert.ReferenceIdeal.S2x160000 32)
  (x2 : IVec Cert.ReferenceIdeal.S10000 32) (x6 : FVec Ideal Cert.ReferenceIdeal.S256x256 .f32)
  (x7 x8 x9 : FVec Ideal Cert.ReferenceIdeal.S256 .f32)
  (X0 : Vec Ideal S10240x256 .f32) (X1 X2 : Vec Ideal S313x1x512 .i32) (X3 : Vec Ideal S1x10240 .i32)
  (X4 : Vec Ideal S256x256 .f32) (X5 X6 : Vec Ideal S256x1 .f32) (X7 : Vec Ideal S1x256 .f32)

/-- The padded arrays one side of the kernel reads, in terms of the arguments. -/
structure Padded : Prop where
  feat : ∀ (n : Fin 10240) k, X0 (ix2 n k) = if h : n.val < 10000 then x0 (ix2 ⟨n.val, h⟩ k) else (0 : EReal)
  source : ∀ (k : Fin 313) (l : Fin 512), X1 (ix3 k 0 l) = if h : 512 * k.val + l.val < 160000 then x1 (ix2 0 ⟨512 * k.val + l.val, h⟩) else 0#32
  target : ∀ (k : Fin 313) (l : Fin 512), X2 (ix3 k 0 l) = if h : 512 * k.val + l.val < 160000 then x1 (ix2 1 ⟨512 * k.val + l.val, h⟩) else 10000#32
  graph : ∀ n : Fin 10240, X3 (ix2 0 n) = if h : n.val < 10000 then x2 (ix1 ⟨n.val, h⟩) else 64#32
  weight : ∀ k j, X4 (ix2 k j) = x6 (ix2 k j)
  attSrc : ∀ j, X5 (ix2 j 0) = x7 (ix1 j)
  attDst : ∀ j, X6 (ix2 j 0) = x8 (ix1 j)
  bias : ∀ c, X7 (ix2 0 c) = x9 (ix1 c)

variable (x : Fin 10000 → Fin 256 → ℝ) (W : Fin 256 → Fin 256 → ℝ) (a a' : Fin 256 → ℝ)
  (hx : ∀ n k, x0 (ix2 n k) = (x n k : EReal)) (hW : ∀ k c, x6 (ix2 k c) = (W k c : EReal))
  (ha : ∀ c, x7 (ix1 c) = (a c : EReal)) (ha' : ∀ c, x8 (ix1 c) = (a' c : EReal))
  (hE : ∀ r e, (x1 (ix2 r e)).toNat < 10000) (hB : ∀ n, (x2 (ix1 n)).toNat < 2 ^ 31) (hZ : ∃ n, x2 (ix1 n) = 0#32)

/-- The features with zero rows appended. -/
def padFeat (n : Fin 10240) (k : Fin 256) : ℝ := if h : n.val < 10000 then x ⟨n.val, h⟩ k else 0

/-- The padded features at a node are the node's. -/
theorem padFeat_node (n : Fin 10000) (h : n.val < 10240) (k : Fin 256) : padFeat x ⟨n.val, h⟩ k = x n k := dif_pos n.isLt

/-- On a node's row the kernel's coefficient is the reference's. -/
theorem coef_node (v : Fin 256 → ℝ) (n : Fin 10000) (h : n.val < 10240) : K.coef (padFeat x) W v ⟨n.val, h⟩ = R.att x W v n := by
  unfold K.coef R.att R.proj
  simp only [padFeat_node, Finset.mul_sum, Finset.sum_mul, mul_assoc]
  exact Finset.sum_comm

include hx hW ha ha' hE hB hZ in
/-- One side's value is the reference's convolution at the selected node, with the bias. -/
theorem sideVal_eq (P : Padded x0 x1 x2 x6 x7 x8 x9 X0 X1 X2 X3 X4 X5 X6 X7) (g : Fin 64) (c : Fin 256) :
    K.sideVal X0 X1 X2 X3 X4 X5 X6 X7 (ix2 g c) = ((R.conv x1 hE x W a a' (R.sel x2 g) c : EReal) + x9 (ix1 c) : EReal) := by
  have hsel := fun g => pay31_toNat X3 x2 hB hZ P.graph g
  have hselN : ∀ g, (k0_pay31 (F := Ideal) X3 (ix2 g 0)).toNat = (R.sel x2 g).val := by
    intro g
    have := (R.sel x2 g).isLt
    rw [hsel, BitVec.toNat_ofNat, Nat.mod_eq_of_lt (by omega)]
  have hg : ∀ g, (k0_pay31 (F := Ideal) X3 (ix2 g 0)).toNat < 10240 := by
    intro g
    have := (R.sel x2 g).isLt
    rw [hselN]; omega
  have hs : ∀ k l, (X1 (ix3 k 0 l)).toNat < 10240 := by
    intro k l
    rw [P.source]
    split
    · rename_i h
      have := hE 0 ⟨_, h⟩
      omega
    · decide
  have hX0 : ∀ (n : Fin 10240) k, X0 (ix2 n k) = (padFeat x n k : EReal) := by
    intro n k
    rw [P.feat]
    unfold padFeat
    by_cases h : n.val < 10000
    · rw [dif_pos h, dif_pos h, hx]
    · rw [dif_neg h, dif_neg h]; rfl
  let Ad : Fin 64 → ℝ := fun g => R.att x W a' (R.sel x2 g)
  have hAd : ∀ g, Ad g = K.coef (padFeat x) W a' ⟨(k0_pay31 (F := Ideal) X3 (ix2 g 0)).toNat, hg g⟩ := by
    intro g
    show R.att x W a' (R.sel x2 g) = _
    rw [← coef_node x W a' (R.sel x2 g) (by have := (R.sel x2 g).isLt; omega)]
    refine congrArg (K.coef (padFeat x) W a') ?_
    rw [Fin.mk.injEq, hselN]
  refine (K.sideVal_apply X0 X1 X2 X3 X4 X5 X6 X7 (padFeat x) W a a' hX0 (fun k j => (P.weight k j).trans (hW k j))
    (fun j => (P.attSrc j).trans (ha j)) (fun j => (P.attDst j).trans (ha' j)) hs hg Ad hAd g c).trans ?_
  rw [P.bias]
  refine congrArg (fun r : ℝ => ((r : EReal) + x9 (ix1 c) : EReal)) ?_
  -- the weight of an edge, and of a padded one
  let w : Fin 160000 → ℝ := fun e => if R.dst x1 hE e = R.sel x2 g then Real.exp (R.logit x1 hE x W a a' e) else 0
  have hw0 : ∀ e, 0 ≤ w e := fun e => by
    show 0 ≤ (if R.dst x1 hE e = R.sel x2 g then Real.exp (R.logit x1 hE x W a a' e) else 0)
    split
    · exact (Real.exp_pos _).le
    · exact le_rfl
  have hewt : ∀ (e : Fin 160000) k l, 512 * k.val + l.val = e.val →
      K.ewt (k0_pay31 (F := Ideal) X3) X1 X2 Ad (K.coef (padFeat x) W a) hs g k l = w e
        ∧ (X1 (ix3 k 0 l)).toNat = (R.src x1 hE e).val := by
    intro e k l q
    have hlt : 512 * k.val + l.val < 160000 := by rw [q]; exact e.isLt
    have he : (⟨512 * k.val + l.val, hlt⟩ : Fin 160000) = e := Fin.ext q
    have h1 : (X1 (ix3 k 0 l)).toNat = (R.src x1 hE e).val := by rw [P.source, dif_pos hlt, he]; rfl
    refine ⟨?_, h1⟩
    have hA : K.coef (padFeat x) W a ⟨(X1 (ix3 k 0 l)).toNat, hs k l⟩ = R.att x W a (R.src x1 hE e) := by
      rw [← coef_node x W a (R.src x1 hE e) (by have := (R.src x1 hE e).isLt; omega)]
      exact congrArg (K.coef (padFeat x) W a) (Fin.ext h1)
    have hd : (X2 (ix3 k 0 l) = k0_pay31 (F := Ideal) X3 (ix2 g 0)) ↔ R.dst x1 hE e = R.sel x2 g := by
      rw [P.target, dif_pos hlt, he, ← BitVec.toNat_inj, hselN]
      exact (Fin.ext_iff (a := R.dst x1 hE e)).symm
    unfold K.ewt K.wt
    rw [hA]
    show _ = (if R.dst x1 hE e = R.sel x2 g then Real.exp (R.logit x1 hE x W a a' e) else 0)
    by_cases r : R.dst x1 hE e = R.sel x2 g
    · rw [if_pos (hd.2 r), if_pos r]
      unfold R.logit
      rw [r, add_comm]
    · rw [if_neg (fun t => r (hd.1 t)), if_neg r]
  have hpad : ∀ k l, 160000 ≤ 512 * k.val + l.val →
      K.ewt (k0_pay31 (F := Ideal) X3) X1 X2 Ad (K.coef (padFeat x) W a) hs g k l = 0 := by
    intro k l q
    unfold K.ewt K.wt
    refine if_neg fun t => ?_
    have := congrArg BitVec.toNat t
    rw [P.target, dif_neg (by omega), hselN] at this
    have h := (R.sel x2 g).isLt
    simp at this
    omega
  -- the sum of the weights, and their sums by source
  have hden : K.den (k0_pay31 (F := Ideal) X3) X1 X2 Ad (K.coef (padFeat x) W a) hs g = ∑ e, w e :=
    sum_edges _ w (fun e k l q => (hewt e k l q).1) hpad
  have hnum : ∀ n, K.num (k0_pay31 (F := Ideal) X3) X1 X2 Ad (K.coef (padFeat x) W a) hs g n
      = ∑ e, w e * (if n.val = (R.src x1 hE e).val then 1 else 0) := fun n =>
    sum_edges _ _ (fun e k l q => by rw [(hewt e k l q).1, (hewt e k l q).2]) (fun k l q => by rw [hpad k l q, zero_mul])
  rw [hden]
  simp only [hnum]
  generalize hD : (if ∑ e, w e = 0 then (1 : ℝ) else ∑ e, w e) = D
  -- collect by edge
  have hcol : ∀ j, (∑ n : Fin 10240, (∑ e, w e * (if n.val = (R.src x1 hE e).val then (1 : ℝ) else 0)) / D * padFeat x n j)
      = ∑ e, w e / D * x (R.src x1 hE e) j := by
    intro j
    simp only [Finset.sum_div, Finset.sum_mul]
    rw [Finset.sum_comm]
    refine Finset.sum_congr rfl fun e _ => ?_
    have hlt : (R.src x1 hE e).val < 10240 := by have := (R.src x1 hE e).isLt; omega
    rw [Finset.sum_eq_single (⟨(R.src x1 hE e).val, hlt⟩ : Fin 10240)]
    · rw [if_pos rfl, mul_one, padFeat_node]
    · intro n _ hn
      rw [if_neg (fun t => hn (Fin.ext t)), mul_zero, zero_div, zero_mul]
    · intro t; exact (t (Finset.mem_univ _)).elim
  simp only [hcol, Finset.sum_mul]
  rw [Finset.sum_comm]
  unfold R.conv
  refine Finset.sum_congr rfl fun e _ => ?_
  by_cases r : R.dst x1 hE e = R.sel x2 g
  · have hwe : w e = Real.exp (R.logit x1 hE x W a a' e) := if_pos r
    have hne : (∑ e, w e) ≠ 0 := by
      refine ((Real.exp_pos (R.logit x1 hE x W a a' e)).trans_le ?_).ne'
      rw [← hwe]
      exact Finset.single_le_sum (fun i _ => hw0 i) (Finset.mem_univ e)
    rw [if_pos r]
    have hal : w e / D = R.alpha x1 hE x W a a' e := by
      rw [← hD, if_neg hne, hwe]
      unfold R.alpha
      rw [r]
    unfold R.proj
    rw [hal, Finset.mul_sum]
    exact Finset.sum_congr rfl fun j _ => mul_assoc _ _ _
  · have hwe : w e = 0 := if_neg r
    rw [if_neg r, hwe]
    exact Finset.sum_eq_zero fun j _ => by rw [zero_div, zero_mul, zero_mul]

end
end Cert.Proof
end
-- ==== Proof.Prep.lean ====
/-
  What the host leaves for the three kernels: the features, the edge words and the graph words padded, the attention vectors
  and the biases reshaped, each read at an index in terms of the arguments.
-/
module
public import proofs.«01_k».proof.Proof.KernelSide
public import proofs.«01_k».proof.Proof.Gen.KernelIdeal.Frame
public import Idealize.ShloMosaic.Lib.StableHlo.ReadAt
@[expose] public section
set_option maxRecDepth 16384
noncomputable section
namespace Cert.Proof
open Cert.KernelIdeal Cert.KernelIdeal.Gen Idealize.ShloMosaic Idealize.ShloMosaic.TcCoe

/-- The zero word as a float is zero. -/
theorem sitofp_zero : (FloatOps.sitofp (F := Ideal) FTy.f32 0#32 : EReal) = 0 := by
  show ((((0#32 : BitVec 32).toInt : ℝ)) : EReal) = 0
  simp

/-- A read of the padded edge words, its position written the other way round. -/
theorem edge_pos {α : Type} (k l : ℕ) (f : (e : ℕ) → e < 160000 → α) (z : α) :
    (if h : k * 512 + l < 160000 then f (k * 512 + l) h else z) = if h : 512 * k + l < 160000 then f (512 * k + l) h else z := by
  have e : k * 512 + l = 512 * k + l := by omega
  rw [e]

section
variable (V : Valuation τ sig (Elt Ideal))

/-- The first side's features, padded. -/
theorem feat0 (n : Fin 10240) (k : Fin 256) :
    (StableHlo.after hostOps0_1 (StableHlo.after (hostOps0 (F := Ideal)) V)) (Proc.devRef .tc main_v0) (ix2 n k)
      = if h : n.val < 10000 then V (Proc.devRef .tc main_arg0) (ix2 ⟨n.val, h⟩ k) else (0 : EReal) := by
  after_reads_at
  rw [sitofp_zero]

/-- The first side's source words, padded. -/
theorem source0 (k : Fin 313) (l : Fin 512) :
    (StableHlo.after hostOps0_4 (StableHlo.after hostOps0_3 (StableHlo.after (hostOps0_2 (F := Ideal)) V))) (Proc.devRef .tc main_v4) (ix3 k 0 l)
      = if h : 512 * k.val + l.val < 160000 then V (Proc.devRef .tc main_arg1) (ix2 0 ⟨512 * k.val + l.val, h⟩) else 0#32 := by
  after_reads_at
  exact edge_pos k.val l.val (fun e h => V (Proc.devRef .tc main_arg1) (ix2 0 ⟨e, h⟩)) 0#32

/-- The first side's target words, padded. -/
theorem target0 (k : Fin 313) (l : Fin 512) :
    (StableHlo.after hostOps0_6 (StableHlo.after hostOps0_5 (StableHlo.after (hostOps0_4 (F := Ideal)) V))) (Proc.devRef .tc main_v8) (ix3 k 0 l)
      = if h : 512 * k.val + l.val < 160000 then V (Proc.devRef .tc main_arg1) (ix2 1 ⟨512 * k.val + l.val, h⟩) else 10000#32 := by
  after_reads_at
  exact edge_pos k.val l.val (fun e h => V (Proc.devRef .tc main_arg1) (ix2 1 ⟨e, h⟩)) 10000#32

/-- The first side's graph words, padded. -/
theorem graph0 (n : Fin 10240) :
    (StableHlo.after hostOps0_8 (StableHlo.after hostOps0_7 (StableHlo.after (hostOps0_6 (F := Ideal)) V))) (Proc.devRef .tc main_v10) (ix2 0 n)
      = if h : n.val < 10000 then V (Proc.devRef .tc main_arg2) (ix1 ⟨n.val, h⟩) else 64#32 := by
  after_reads_at
  rfl

/-- The first side's source vector, as a column. -/
theorem attSrc0 (j : Fin 256) : StableHlo.after (hostOps0_8 (F := Ideal)) V (Proc.devRef .tc main_v11) (ix2 j 0) = V (Proc.devRef .tc main_arg7) (ix1 j) := by
  after_reads_at
/-- The first side's target vector, as a column. -/
theorem attDst0 (j : Fin 256) : StableHlo.after (hostOps0_8 (F := Ideal)) V (Proc.devRef .tc main_v12) (ix2 j 0) = V (Proc.devRef .tc main_arg8) (ix1 j) := by
  after_reads_at
/-- The first side's bias, as a row. -/
theorem bias0 (j : Fin 256) : StableHlo.after (hostOps0_8 (F := Ideal)) V (Proc.devRef .tc main_v13) (ix2 0 j) = V (Proc.devRef .tc main_arg9) (ix1 j) := by
  after_reads_at

/-- The second side's features, padded. -/
theorem feat1 (n : Fin 10240) (k : Fin 256) :
    (StableHlo.after hostOps1_1 (StableHlo.after (hostOps1 (F := Ideal)) V)) (Proc.devRef .tc main_v15) (ix2 n k)
      = if h : n.val < 10000 then V (Proc.devRef .tc main_arg3) (ix2 ⟨n.val, h⟩ k) else (0 : EReal) := by
  after_reads_at
  rw [sitofp_zero]

/-- The second side's source words, padded. -/
theorem source1 (k : Fin 313) (l : Fin 512) :
    (StableHlo.after hostOps1_4 (StableHlo.after hostOps1_3 (StableHlo.after (hostOps1_2 (F := Ideal)) V))) (Proc.devRef .tc main_v19) (ix3 k 0 l)
      = if h : 512 * k.val + l.val < 160000 then V (Proc.devRef .tc main_arg4) (ix2 0 ⟨512 * k.val + l.val, h⟩) else 0#32 := by
  after_reads_at
  exact edge_pos k.val l.val (fun e h => V (Proc.devRef .tc main_arg4) (ix2 0 ⟨e, h⟩)) 0#32

/-- The second side's target words, padded. -/
theorem target1 (k : Fin 313) (l : Fin 512) :
    (StableHlo.after hostOps1_6 (StableHlo.after hostOps1_5 (StableHlo.after (hostOps1_4 (F := Ideal)) V))) (Proc.devRef .tc main_v23) (ix3 k 0 l)
      = if h : 512 * k.val + l.val < 160000 then V (Proc.devRef .tc main_arg4) (ix2 1 ⟨512 * k.val + l.val, h⟩) else 10000#32 := by
  after_reads_at
  exact edge_pos k.val l.val (fun e h => V (Proc.devRef .tc main_arg4) (ix2 1 ⟨e, h⟩)) 10000#32

/-- The second side's graph words, padded. -/
theorem graph1 (n : Fin 10240) :
    (StableHlo.after hostOps1_8 (StableHlo.after hostOps1_7 (StableHlo.after (hostOps1_6 (F := Ideal)) V))) (Proc.devRef .tc main_v25) (ix2 0 n)
      = if h : n.val < 10000 then V (Proc.devRef .tc main_arg5) (ix1 ⟨n.val, h⟩) else 64#32 := by
  after_reads_at
  rfl

/-- The second side's source vector, as a column. -/
theorem attSrc1 (j : Fin 256) : StableHlo.after (hostOps1_8 (F := Ideal)) V (Proc.devRef .tc main_v26) (ix2 j 0) = V (Proc.devRef .tc main_arg11) (ix1 j) := by
  after_reads_at
/-- The second side's target vector, as a column. -/
theorem attDst1 (j : Fin 256) : StableHlo.after (hostOps1_8 (F := Ideal)) V (Proc.devRef .tc main_v27) (ix2 j 0) = V (Proc.devRef .tc main_arg12) (ix1 j) := by
  after_reads_at
/-- The second side's bias, as a row. -/
theorem bias1 (j : Fin 256) : StableHlo.after (hostOps1_8 (F := Ideal)) V (Proc.devRef .tc main_v28) (ix2 0 j) = V (Proc.devRef .tc main_arg13) (ix1 j) := by
  after_reads_at

/-- The last kernel's bias, as a matrix of one entry. -/
theorem bias2 : StableHlo.after (hostOps2 (F := Ideal)) V (Proc.devRef .tc main_v30) (ix2 0 0) = V (Proc.devRef .tc main_arg15) (ix1 0) := by
  after_reads_at
end

variable (m : (ℓ : Loc nD τ sig) → Buf (Elt Ideal) ℓ) (ρ : Dev nD → PrngReg) (c : Dev nD)

/-- What the first kernel reads. -/
theorem padded0 : Padded (m ((c : Thread nD τ).loc main_arg0)) (m ((c : Thread nD τ).loc main_arg1)) (m ((c : Thread nD τ).loc main_arg2))
    (m ((c : Thread nD τ).loc main_arg6)) (m ((c : Thread nD τ).loc main_arg7)) (m ((c : Thread nD τ).loc main_arg8)) (m ((c : Thread nD τ).loc main_arg9))
    (W9 m ρ c (Proc.devRef .tc main_v0)) (W9 m ρ c (Proc.devRef .tc main_v4)) (W9 m ρ c (Proc.devRef .tc main_v8)) (W9 m ρ c (Proc.devRef .tc main_v10))
    (W9 m ρ c (Proc.devRef .tc main_arg6)) (W9 m ρ c (Proc.devRef .tc main_v11)) (W9 m ρ c (Proc.devRef .tc main_v12)) (W9 m ρ c (Proc.devRef .tc main_v13)) where
  feat n k := by
    rw [W9_of m ρ c main_v0 (by decide), W8_of m ρ c main_v0 (by decide), W7_of m ρ c main_v0 (by decide), W6_of m ρ c main_v0 (by decide),
      W5_of m ρ c main_v0 (by decide), W4_of m ρ c main_v0 (by decide), W3_of m ρ c main_v0 (by decide)]
    refine (feat0 (W0 m ρ c) n k).trans ?_
    rw [W0_args m ρ c main_arg0 (by decide)]
  source k l := by
    rw [W9_of m ρ c main_v4 (by decide), W8_of m ρ c main_v4 (by decide), W7_of m ρ c main_v4 (by decide), W6_of m ρ c main_v4 (by decide)]
    refine (source0 (W2 m ρ c) k l).trans ?_
    rw [W2_args m ρ c main_arg1 (by decide)]
  target k l := by
    rw [W9_of m ρ c main_v8 (by decide), W8_of m ρ c main_v8 (by decide)]
    refine (target0 (W4 m ρ c) k l).trans ?_
    rw [W4_args m ρ c main_arg1 (by decide)]
  graph n := by
    refine (graph0 (W6 m ρ c) n).trans ?_
    rw [W6_args m ρ c main_arg2 (by decide)]
  weight k j := by rw [W9_args m ρ c main_arg6 (by decide)]
  attSrc j := by refine (attSrc0 (W8 m ρ c) j).trans ?_; rw [W8_args m ρ c main_arg7 (by decide)]
  attDst j := by refine (attDst0 (W8 m ρ c) j).trans ?_; rw [W8_args m ρ c main_arg8 (by decide)]
  bias j := by refine (bias0 (W8 m ρ c) j).trans ?_; rw [W8_args m ρ c main_arg9 (by decide)]

/-- What the second kernel reads. -/
theorem padded1 : Padded (m ((c : Thread nD τ).loc main_arg3)) (m ((c : Thread nD τ).loc main_arg4)) (m ((c : Thread nD τ).loc main_arg5))
    (m ((c : Thread nD τ).loc main_arg10)) (m ((c : Thread nD τ).loc main_arg11)) (m ((c : Thread nD τ).loc main_arg12)) (m ((c : Thread nD τ).loc main_arg13))
    (W19 m ρ c (Proc.devRef .tc main_v15)) (W19 m ρ c (Proc.devRef .tc main_v19)) (W19 m ρ c (Proc.devRef .tc main_v23)) (W19 m ρ c (Proc.devRef .tc main_v25))
    (W19 m ρ c (Proc.devRef .tc main_arg10)) (W19 m ρ c (Proc.devRef .tc main_v26)) (W19 m ρ c (Proc.devRef .tc main_v27)) (W19 m ρ c (Proc.devRef .tc main_v28)) where
  feat n k := by
    rw [W19_of m ρ c main_v15 (by decide), W18_of m ρ c main_v15 (by decide), W17_of m ρ c main_v15 (by decide), W16_of m ρ c main_v15 (by decide),
      W15_of m ρ c main_v15 (by decide), W14_of m ρ c main_v15 (by decide), W13_of m ρ c main_v15 (by decide)]
    refine (feat1 (W10 m ρ c) n k).trans ?_
    rw [W10_args m ρ c main_arg3 (by decide)]
  source k l := by
    rw [W19_of m ρ c main_v19 (by decide), W18_of m ρ c main_v19 (by decide), W17_of m ρ c main_v19 (by decide), W16_of m ρ c main_v19 (by decide)]
    refine (source1 (W12 m ρ c) k l).trans ?_
    rw [W12_args m ρ c main_arg4 (by decide)]
  target k l := by
    rw [W19_of m ρ c main_v23 (by decide), W18_of m ρ c main_v23 (by decide)]
    refine (target1 (W14 m ρ c) k l).trans ?_
    rw [W14_args m ρ c main_arg4 (by decide)]
  graph n := by
    refine (graph1 (W16 m ρ c) n).trans ?_
    rw [W16_args m ρ c main_arg5 (by decide)]
  weight k j := by rw [W19_args m ρ c main_arg10 (by decide)]
  attSrc j := by refine (attSrc1 (W18 m ρ c) j).trans ?_; rw [W18_args m ρ c main_arg11 (by decide)]
  attDst j := by refine (attDst1 (W18 m ρ c) j).trans ?_; rw [W18_args m ρ c main_arg12 (by decide)]
  bias j := by refine (bias1 (W18 m ρ c) j).trans ?_; rw [W18_args m ρ c main_arg13 (by decide)]

end Cert.Proof
end
-- ==== Proof.Region0.lean ====
module
public import proofs.«01_k».proof.Proof.Gen.KernelIdeal.Frame
public import proofs.«01_k».proof.Proof.Payload
public import Idealize.ShloMosaic.Lib.Pipeline.Value
@[expose] public section

/-
  Region 0: what its body leaves in its output block, as the function `sideVal` of the eight blocks it
  reads.
-/

set_option maxRecDepth 16384
noncomputable section
namespace Cert.Proof.K
open Cert.KernelIdeal Cert.KernelIdeal.Gen Idealize.ShloMosaic Idealize.ShloMosaic.TcCoe Idealize.ShloMosaic.Tactic Idealize.SL.Sem
variable {F : FTy → Type} [FloatOps F]

section
variable (𝒱 : Variants) (c : Dev nD) (bd : Option 𝒱.V)
  (arg0 : Memref sig .tc .vmem S10240x256 .f32) (harg0 : arg0.IsWhole) (arg1 : Memref sig .tc .vmem S313x1x512 .i32) (harg1 : arg1.IsWhole) (arg2 : Memref sig .tc .vmem S313x1x512 .i32) (harg2 : arg2.IsWhole) (arg3 : Memref sig .tc .vmem S1x10240 .i32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S64x256 .f32) (harg8 : arg8.IsWhole)

/-- One trip of the loop. -/
theorem trip0_eq (v1 : FVec F S10240x256 .f32) (v14 : IVec S64x1 32) (v31 : FVec F S64x1 .f32) (v32 : FVec F S40x256 .f32)
    (v33 : FVec F S2560x256 .f32) (v34 : FVec F S64x1 .f32) (c0 : BitVec 32)
    (x1 x2 : Vec F S313x1x512 .i32) (k : Fin k0_t1_loop.trips) (hk : k.val < 313)
    (acc : FVec F S2560x256 .f32 × FVec F S64x1 .f32) :
    tripR_k0_t1 (F := F) 𝒱 c bd arg0 harg0 arg1 harg1 arg2 harg2 arg3 harg3 arg4 harg4 arg5 harg5 arg6 harg6 arg7 harg7 arg8 harg8 v1 v14 v31 v32 v33 v34 c0 (harg1.unread x1) (harg2.unread x2) k acc
      = tripVal v14 v31 v32 (rowAt x1 ⟨k.val, hk⟩) (rowAt x2 ⟨k.val, hk⟩) acc := by
  have hv : BitVec.toNat (Scalar.indexCast (Scf.iv 0#32 1#32 k.val)) = k.val := by
    simp [Scf.iv, Scalar.indexCast]
    omega
  have e : ∀ (x : Vec F S313x1x512 .i32),
      View.ld x (Rect.unit (s := S313x1x512) (k0_off1 k) S1x1x512.size (k0_off1_inb k))
        = rowAt x ⟨k.val, hk⟩ := by
    intro x
    funext i
    refine congrArg x ?_
    funext a
    refine Fin.ext ?_
    have h0 : (i 0).val = 0 := by have := (i 0).isLt; simpa using this
    have h1 : (i 1).val = 0 := by have := (i 1).isLt; simpa using this
    fin_cases a
    · simp [LoadRect.idx, k0_off1, hv, h0, ix3]
    · simp [LoadRect.idx, k0_off1, h1, ix3]
    · simp [LoadRect.idx, k0_off1, ix3]
  unfold tripR_k0_t1 trip_k0_t1
  dsimp only
  sl_unfold_words
  simp only [View.readAt_eq_ld, harg1.read_unread, harg2.read_unread]
  change tripVal v14 v31 v32 (View.ld x1 (Rect.unit (s := S313x1x512) (k0_off1 k) S1x1x512.size (k0_off1_inb k)))
    (View.ld x2 (Rect.unit (s := S313x1x512) (k0_off1 k) S1x1x512.size (k0_off1_inb k))) acc = _
  rw [e x1, e x2]

/-- The carried pair before trip `n`. -/
theorem st0_eq (v1 : FVec F S10240x256 .f32) (v14 : IVec S64x1 32) (v31 : FVec F S64x1 .f32) (v32 : FVec F S40x256 .f32)
    (v33 : FVec F S2560x256 .f32) (v34 : FVec F S64x1 .f32) (c0 : BitVec 32)
    (x1 x2 : Vec F S313x1x512 .i32) (n : ℕ) (hn : n ≤ 313) :
    st_k0_t1 (F := F) 𝒱 c bd arg0 harg0 arg1 harg1 arg2 harg2 arg3 harg3 arg4 harg4 arg5 harg5 arg6 harg6 arg7 harg7 arg8 harg8 v1 v14 v31 v32 v33 v34 c0 (harg1.unread x1) (harg2.unread x2) (k0_pay34, k0_pay35) n
      = runTrips v14 v31 v32 x1 x2 n := by
  induction n with
  | zero => rfl
  | succ n ih =>
    have ht : k0_t1_loop.trips = 313 := by decide
    have h := st_k0_t1_succ (F := F) 𝒱 c bd arg0 harg0 arg1 harg1 arg2 harg2 arg3 harg3 arg4 harg4 arg5 harg5 arg6 harg6 arg7 harg7 arg8 harg8 v1 v14 v31 v32 v33 v34 c0 (harg1.unread x1) (harg2.unread x2)
      (k0_pay34, k0_pay35) ⟨n, by rw [ht]; omega⟩
    rw [h, ih (by omega), trip0_eq (hk := by show n < 313; omega)]
    simp only [runTrips]
    rw [dif_pos (show n < 313 by omega)]
end

/-- The block the body leaves in its output. -/
theorem out0_eq (c : Dev nD) (arg0 : Memref sig .tc .vmem S10240x256 .f32) (harg0 : arg0.IsWhole) (arg1 : Memref sig .tc .vmem S313x1x512 .i32) (harg1 : arg1.IsWhole) (arg2 : Memref sig .tc .vmem S313x1x512 .i32) (harg2 : arg2.IsWhole) (arg3 : Memref sig .tc .vmem S1x10240 .i32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S64x256 .f32) (harg8 : arg8.IsWhole)
    (x0 : Vec F S10240x256 .f32) (x1 : Vec F S313x1x512 .i32) (x2 : Vec F S313x1x512 .i32) (x3 : Vec F S1x10240 .i32) (x4 : Vec F S256x256 .f32) (x5 : Vec F S256x1 .f32) (x6 : Vec F S256x1 .f32) (x7 : Vec F S1x256 .f32) :
    out0_A_8 c arg0 harg0 arg1 harg1 arg2 harg2 arg3 harg3 arg4 harg4 arg5 harg5 arg6 harg6 arg7 harg7 arg8 harg8 x0 x1 x2 x3 x4 x5 x6 x7 = sideVal x0 x1 x2 x3 x4 x5 x6 x7 := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5 x6 x7)]
  unfold kernelRun0_A
  dsimp only
  sl_unfold_words
  have hz : (![0, 0] : Fin 2 → Nat) = fun _ => 0 := by decide
  rw [View.canon_unit_zero (S := S64x256) hz]
  simp only [View.readAt_eq_ld, harg0.read_unread, harg3.read_unread, harg4.read_unread, harg5.read_unread, harg6.read_unread, harg7.read_unread]
  rw [View.ld_unit_zero (S := S10240x256) hz, View.ld_unit_zero (S := S1x10240) hz, View.ld_unit_zero (S := S256x256) hz, View.ld_unit_zero (S := S1x256) hz]
  simp only [View.ld_unit_zero (S := S256x1) hz]
  have ht : Scf.trips k0_t1_loop.lb k0_t1_loop.ub k0_t1_loop.st = 313 := by decide
  rw [ht, st0_eq (hn := le_refl 313)]
  rfl

end Cert.Proof.K
end
-- ==== Proof.Region1.lean ====
module
public import proofs.«01_k».proof.Proof.Gen.KernelIdeal.Frame
public import proofs.«01_k».proof.Proof.Payload
public import Idealize.ShloMosaic.Lib.Pipeline.Value
@[expose] public section

/-
  Region 1: what its body leaves in its output block, as the function `sideVal` of the eight blocks it
  reads.
-/

set_option maxRecDepth 16384
noncomputable section
namespace Cert.Proof.K
open Cert.KernelIdeal Cert.KernelIdeal.Gen Idealize.ShloMosaic Idealize.ShloMosaic.TcCoe Idealize.ShloMosaic.Tactic Idealize.SL.Sem
variable {F : FTy → Type} [FloatOps F]

section
variable (𝒱 : Variants) (c : Dev nD) (bd : Option 𝒱.V)
  (arg0 : Memref sig .tc .vmem S10240x256 .f32) (harg0 : arg0.IsWhole) (arg1 : Memref sig .tc .vmem S313x1x512 .i32) (harg1 : arg1.IsWhole) (arg2 : Memref sig .tc .vmem S313x1x512 .i32) (harg2 : arg2.IsWhole) (arg3 : Memref sig .tc .vmem S1x10240 .i32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S64x256 .f32) (harg8 : arg8.IsWhole)

/-- One trip of the loop. -/
theorem trip1_eq (v1 : FVec F S10240x256 .f32) (v14 : IVec S64x1 32) (v31 : FVec F S64x1 .f32) (v32 : FVec F S40x256 .f32)
    (v33 : FVec F S2560x256 .f32) (v34 : FVec F S64x1 .f32) (c0 : BitVec 32)
    (x1 x2 : Vec F S313x1x512 .i32) (k : Fin k1_t1_loop.trips) (hk : k.val < 313)
    (acc : FVec F S2560x256 .f32 × FVec F S64x1 .f32) :
    tripR_k1_t1 (F := F) 𝒱 c bd arg0 harg0 arg1 harg1 arg2 harg2 arg3 harg3 arg4 harg4 arg5 harg5 arg6 harg6 arg7 harg7 arg8 harg8 v1 v14 v31 v32 v33 v34 c0 (harg1.unread x1) (harg2.unread x2) k acc
      = tripVal v14 v31 v32 (rowAt x1 ⟨k.val, hk⟩) (rowAt x2 ⟨k.val, hk⟩) acc := by
  have hv : BitVec.toNat (Scalar.indexCast (Scf.iv 0#32 1#32 k.val)) = k.val := by
    simp [Scf.iv, Scalar.indexCast]
    omega
  have e : ∀ (x : Vec F S313x1x512 .i32),
      View.ld x (Rect.unit (s := S313x1x512) (k1_off1 k) S1x1x512.size (k1_off1_inb k))
        = rowAt x ⟨k.val, hk⟩ := by
    intro x
    funext i
    refine congrArg x ?_
    funext a
    refine Fin.ext ?_
    have h0 : (i 0).val = 0 := by have := (i 0).isLt; simpa using this
    have h1 : (i 1).val = 0 := by have := (i 1).isLt; simpa using this
    fin_cases a
    · simp [LoadRect.idx, k1_off1, hv, h0, ix3]
    · simp [LoadRect.idx, k1_off1, h1, ix3]
    · simp [LoadRect.idx, k1_off1, ix3]
  unfold tripR_k1_t1 trip_k1_t1
  dsimp only
  sl_unfold_words
  simp only [View.readAt_eq_ld, harg1.read_unread, harg2.read_unread]
  change tripVal v14 v31 v32 (View.ld x1 (Rect.unit (s := S313x1x512) (k1_off1 k) S1x1x512.size (k1_off1_inb k)))
    (View.ld x2 (Rect.unit (s := S313x1x512) (k1_off1 k) S1x1x512.size (k1_off1_inb k))) acc = _
  rw [e x1, e x2]

/-- The carried pair before trip `n`. -/
theorem st1_eq (v1 : FVec F S10240x256 .f32) (v14 : IVec S64x1 32) (v31 : FVec F S64x1 .f32) (v32 : FVec F S40x256 .f32)
    (v33 : FVec F S2560x256 .f32) (v34 : FVec F S64x1 .f32) (c0 : BitVec 32)
    (x1 x2 : Vec F S313x1x512 .i32) (n : ℕ) (hn : n ≤ 313) :
    st_k1_t1 (F := F) 𝒱 c bd arg0 harg0 arg1 harg1 arg2 harg2 arg3 harg3 arg4 harg4 arg5 harg5 arg6 harg6 arg7 harg7 arg8 harg8 v1 v14 v31 v32 v33 v34 c0 (harg1.unread x1) (harg2.unread x2) (k1_pay34, k1_pay35) n
      = runTrips v14 v31 v32 x1 x2 n := by
  induction n with
  | zero => rfl
  | succ n ih =>
    have ht : k1_t1_loop.trips = 313 := by decide
    have h := st_k1_t1_succ (F := F) 𝒱 c bd arg0 harg0 arg1 harg1 arg2 harg2 arg3 harg3 arg4 harg4 arg5 harg5 arg6 harg6 arg7 harg7 arg8 harg8 v1 v14 v31 v32 v33 v34 c0 (harg1.unread x1) (harg2.unread x2)
      (k1_pay34, k1_pay35) ⟨n, by rw [ht]; omega⟩
    rw [h, ih (by omega), trip1_eq (hk := by show n < 313; omega)]
    simp only [runTrips]
    rw [dif_pos (show n < 313 by omega)]
end

/-- The block the body leaves in its output. -/
theorem out1_eq (c : Dev nD) (arg0 : Memref sig .tc .vmem S10240x256 .f32) (harg0 : arg0.IsWhole) (arg1 : Memref sig .tc .vmem S313x1x512 .i32) (harg1 : arg1.IsWhole) (arg2 : Memref sig .tc .vmem S313x1x512 .i32) (harg2 : arg2.IsWhole) (arg3 : Memref sig .tc .vmem S1x10240 .i32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S64x256 .f32) (harg8 : arg8.IsWhole)
    (x0 : Vec F S10240x256 .f32) (x1 : Vec F S313x1x512 .i32) (x2 : Vec F S313x1x512 .i32) (x3 : Vec F S1x10240 .i32) (x4 : Vec F S256x256 .f32) (x5 : Vec F S256x1 .f32) (x6 : Vec F S256x1 .f32) (x7 : Vec F S1x256 .f32) :
    out1_A_8 c arg0 harg0 arg1 harg1 arg2 harg2 arg3 harg3 arg4 harg4 arg5 harg5 arg6 harg6 arg7 harg7 arg8 harg8 x0 x1 x2 x3 x4 x5 x6 x7 = sideVal x0 x1 x2 x3 x4 x5 x6 x7 := by
  unfold out1_A_8
  rw [View.read_writes_eq_canon _ _ _ (cover1_A_8 c arg0 harg0 arg1 harg1 arg2 harg2 arg3 harg3 arg4 harg4 arg5 harg5 arg6 harg6 arg7 harg7 arg8 harg8 x0 x1 x2 x3 x4 x5 x6 x7)]
  unfold kernelRun1_A
  dsimp only
  sl_unfold_words
  have hz : (![0, 0] : Fin 2 → Nat) = fun _ => 0 := by decide
  rw [View.canon_unit_zero (S := S64x256) hz]
  simp only [View.readAt_eq_ld, harg0.read_unread, harg3.read_unread, harg4.read_unread, harg5.read_unread, harg6.read_unread, harg7.read_unread]
  rw [View.ld_unit_zero (S := S10240x256) hz, View.ld_unit_zero (S := S1x10240) hz, View.ld_unit_zero (S := S256x256) hz, View.ld_unit_zero (S := S1x256) hz]
  simp only [View.ld_unit_zero (S := S256x1) hz]
  have ht : Scf.trips k1_t1_loop.lb k1_t1_loop.ub k1_t1_loop.st = 313 := by decide
  rw [ht, st1_eq (hn := le_refl 313)]
  rfl

end Cert.Proof.K
end
-- ==== Proof.Arrays.lean ====
/-
  What the three kernels leave in their result arrays, each a function of the arrays it reads.
-/
module
public import proofs.«01_k».proof.Proof.Prep
public import proofs.«01_k».proof.Proof.Region0
public import proofs.«01_k».proof.Proof.Region1
public import Idealize.ShloMosaic.Lib.Pipeline.ValueKit
@[expose] public section
set_option maxRecDepth 16384
noncomputable section
namespace Cert.Proof
open Cert.KernelIdeal Cert.KernelIdeal.Gen Idealize.ShloMosaic Idealize.ShloMosaic.TcCoe

section
variable (V : (c : Dev nD) → (b : Ref sig .tc) → Buf (Elt Ideal) ((c : Thread nD τ).loc b)) (c : Dev nD)

/-- Every window of this kernel has the one block 0. -/
theorem index0 : (∀ t a, win0_0.index t a = 0) ∧ (∀ t a, win0_1.index t a = 0) ∧ (∀ t a, win0_2.index t a = 0) ∧ (∀ t a, win0_3.index t a = 0) ∧ (∀ t a, win0_4.index t a = 0) ∧ (∀ t a, win0_5.index t a = 0) ∧ (∀ t a, win0_6.index t a = 0) ∧ (∀ t a, win0_7.index t a = 0) := by decide +kernel

set_option maxHeartbeats 1000000 in
/-- The first kernel's blocks are its whole arrays. -/
theorem blocks0 : (iblk0 V c 0 t0_0 : Vec Ideal S10240x256 .f32) = V c main_v0
    ∧ (iblk0 V c 1 t0_0 : Vec Ideal S313x1x512 .i32) = V c main_v4
    ∧ (iblk0 V c 2 t0_0 : Vec Ideal S313x1x512 .i32) = V c main_v8
    ∧ (iblk0 V c 3 t0_0 : Vec Ideal S1x10240 .i32) = V c main_v10
    ∧ (iblk0 V c 4 t0_0 : Vec Ideal S256x256 .f32) = V c main_arg6
    ∧ (iblk0 V c 5 t0_0 : Vec Ideal S256x1 .f32) = V c main_v11
    ∧ (iblk0 V c 6 t0_0 : Vec Ideal S256x1 .f32) = V c main_v12
    ∧ (iblk0 V c 7 t0_0 : Vec Ideal S1x256 .f32) = V c main_v13 := by
  obtain ⟨e0, e1, e2, e3, e4, e5, e6, e7⟩ := index0
  refine ⟨?_, ?_, ?_, ?_, ?_, ?_, ?_, ?_⟩ <;> (funext y; blk_ext [iblk0, e0, e1, e2, e3, e4, e5, e6, e7])

/-- The first kernel's result. -/
theorem arr0 : (dat0 V c).arrAt 8 cfg0.N
    = K.sideVal (V c main_v0) (V c main_v4) (V c main_v8) (V c main_v10) (V c main_arg6) (V c main_v11) (V c main_v12) (V c main_v13) := by
  refine (dat0 V c).arrAt_eq_of_after_last 8 t0_0 (by decide +kernel) _ fun j => ?_
  blk_simp
  rw [after0_8]
  unfold outsAt0
  rw [K.out0_eq]
  obtain ⟨h0, h1, h2, h3, h4, h5, h6, h7⟩ := blocks0 V c
  exact congrFun (by rw [h0, h1, h2, h3, h4, h5, h6, h7]) j

/-- Every window of this kernel has the one block 0. -/
theorem index1 : (∀ t a, win1_0.index t a = 0) ∧ (∀ t a, win1_1.index t a = 0) ∧ (∀ t a, win1_2.index t a = 0) ∧ (∀ t a, win1_3.index t a = 0) ∧ (∀ t a, win1_4.index t a = 0) ∧ (∀ t a, win1_5.index t a = 0) ∧ (∀ t a, win1_6.index t a = 0) ∧ (∀ t a, win1_7.index t a = 0) := by decide +kernel

set_option maxHeartbeats 1000000 in
/-- The second kernel's blocks are its whole arrays. -/
theorem blocks1 : (iblk1 V c 0 t1_0 : Vec Ideal S10240x256 .f32) = V c main_v15
    ∧ (iblk1 V c 1 t1_0 : Vec Ideal S313x1x512 .i32) = V c main_v19
    ∧ (iblk1 V c 2 t1_0 : Vec Ideal S313x1x512 .i32) = V c main_v23
    ∧ (iblk1 V c 3 t1_0 : Vec Ideal S1x10240 .i32) = V c main_v25
    ∧ (iblk1 V c 4 t1_0 : Vec Ideal S256x256 .f32) = V c main_arg10
    ∧ (iblk1 V c 5 t1_0 : Vec Ideal S256x1 .f32) = V c main_v26
    ∧ (iblk1 V c 6 t1_0 : Vec Ideal S256x1 .f32) = V c main_v27
    ∧ (iblk1 V c 7 t1_0 : Vec Ideal S1x256 .f32) = V c main_v28 := by
  obtain ⟨e0, e1, e2, e3, e4, e5, e6, e7⟩ := index1
  refine ⟨?_, ?_, ?_, ?_, ?_, ?_, ?_, ?_⟩ <;> (funext y; blk_ext [iblk1, e0, e1, e2, e3, e4, e5, e6, e7])

/-- The second kernel's result. -/
theorem arr1 : (dat1 V c).arrAt 8 cfg1.N
    = K.sideVal (V c main_v15) (V c main_v19) (V c main_v23) (V c main_v25) (V c main_arg10) (V c main_v26) (V c main_v27) (V c main_v28) := by
  refine (dat1 V c).arrAt_eq_of_after_last 8 t1_0 (by decide +kernel) _ fun j => ?_
  blk_simp
  rw [after1_8]
  unfold outsAt1
  rw [K.out1_eq]
  obtain ⟨h0, h1, h2, h3, h4, h5, h6, h7⟩ := blocks1 V c
  exact congrFun (by rw [h0, h1, h2, h3, h4, h5, h6, h7]) j

/-- Every window of this kernel has the one block 0. -/
theorem index2 : (∀ t a, win2_0.index t a = 0) ∧ (∀ t a, win2_1.index t a = 0) ∧ (∀ t a, win2_2.index t a = 0) ∧ (∀ t a, win2_3.index t a = 0) := by decide +kernel

/-- The last kernel's blocks are its whole arrays. -/
theorem blocks2 : (iblk2 V c 0 t2_0 : Vec Ideal S64x256 .f32) = V c main_v14 ∧ (iblk2 V c 1 t2_0 : Vec Ideal S64x256 .f32) = V c main_v29
    ∧ (iblk2 V c 2 t2_0 : Vec Ideal S256x1 .f32) = V c main_arg14 ∧ (iblk2 V c 3 t2_0 : Vec Ideal S1x1 .f32) = V c main_v30 := by
  obtain ⟨e0, e1, e2, e3⟩ := index2
  refine ⟨?_, ?_, ?_, ?_⟩ <;> (funext y; blk_ext [iblk2, e0, e1, e2, e3])

/-- The last kernel's result, over the two sides' values, the weights and the bias. -/
def last (a b : Vec Ideal S64x256 .f32) (w : Vec Ideal S256x1 .f32) (d : Vec Ideal S1x1 .f32) : Vec Ideal S64x1 .f32 := fun j =>
  (∑ x : Fin 256, (Ideal.logistic (a (ix2 (j 0) x)) + Ideal.logistic (b (ix2 (j 0) x))) * w (ix2 x 0) : EReal) + d (ix2 0 0)

/-- What the last kernel stores, entry by entry. -/
theorem out2_eq (a b : Vec Ideal S64x256 .f32) (w : Vec Ideal S256x1 .f32) (d : Vec Ideal S1x1 .f32) : out2_4 a b w d = last a b w d := by
  funext j
  have e : ∀ z : Fin 1, z = 0 := fun z => Subsingleton.elim _ _
  obtain ⟨g, rfl⟩ : ∃ g : Fin 64, j = ix2 g (0 : Fin 1) := ⟨j 0, (eq_ix2 j).trans (congrArg (fun z : Fin 1 => ix2 (j 0) z) (e (j 1)))⟩
  frame_out
  pointwise [k2_pay1, last]

/-- The last kernel's result array. -/
theorem arr2 : (dat2 V c).arrAt 4 cfg2.N = last (V c main_v14) (V c main_v29) (V c main_arg14) (V c main_v30) := by
  refine (dat2 V c).arrAt_eq_of_after_last 4 t2_0 (by decide +kernel) _ fun j => ?_
  blk_simp
  rw [after2_4, out2_eq]
  obtain ⟨h0, h1, h2, h3⟩ := blocks2 V c
  exact congrFun (by rw [h0, h1, h2, h3]) j

end
end Cert.Proof
end
-- ==== Proof.Pre.lean ====
/-
  What the precondition says of the arguments: the features, the weights and the attention vectors are real numbers, the
  edge words name nodes, no graph word is negative and the least graph word is zero.
-/
module
public import proofs.«01_k».proof.Defs
public import Idealize.ShloMosaic.Lib.WordArith
public import proofs.«01_k».proof.Proof.KernelSide
@[expose] public section
set_option maxRecDepth 16384
noncomputable section
namespace Cert.Proof
open Idealize.ShloMosaic Idealize.ShloMosaic.TcCoe

/-- The shape relations the precondition's operations take. -/
theorem preFacts : Cert.Pre_inputs_drawn.Facts where
  bcast_S_S10000x256 := by decide
  bcast_S_S2x160000 := by decide
  bcast_S_S10000 := by decide
  reducesTo_S10000_S_d0 := by decide
  h_S_ := by decide
  bcast_S_S256x256 := by decide
  bcast_S_S256 := by decide

/-- One where an entry lies strictly between the two infinities. -/
def finMask {s : Shape} (x : FVec Ideal s .f32) : IVec s 1 := fun i =>
  IntOp.andi (FloatOps.cmpf .olt (x i) (FloatOps.ofBits .f32 0x7F800000#32)) (FloatOps.cmpf .ogt (x i) (FloatOps.ofBits .f32 0xFF800000#32))

/-- One where a word names a node. -/
def nodeMask {s : Shape} (x : IVec s 32) : IVec s 1 := fun i => IntOp.andi (IntOp.cmpi .sge (x i) 0#32) (IntOp.cmpi .slt (x i) 10000#32)

/-- One where a word is not negative. -/
def posMask {s : Shape} (x : IVec s 32) : IVec s 1 := fun i => IntOp.cmpi .sge (x i) 0#32

/-- One when the least word is zero. -/
def leastMask [hF : Cert.Pre_inputs_drawn.Facts] (x : IVec Cert.Pre_inputs_drawn.S10000 32) : IVec Cert.Pre_inputs_drawn.S_ 1 := fun i =>
  IntOp.cmpi .eq (Host.reduce IntOp.minsi x (constantI Cert.Pre_inputs_drawn.S_ 32 2147483647#32) hF.reducesTo_S10000_S_d0 hF.h_S_ i) 0#32

/-- Where the mask of finite values is one, the value is a real number. -/
theorem finMask_real {s : Shape} (x : FVec Ideal s .f32) (i : s.Idx) (h : finMask x i = 1#1) : ∃ r : ℝ, x i = (r : EReal) := by
  have hi : Ideal.ofBits .f32 0x7F800000#32 = (⊤ : EReal) := by simp [Ideal.ofBits, Ideal.ieee]
  have h1 : x i < (⊤ : EReal) ∧ (⊥ : EReal) < x i := by
    unfold finMask at h
    have e : ∀ p q : BitVec 1, IntOp.andi p q = 1#1 → p = 1#1 ∧ q = 1#1 := by decide
    obtain ⟨p, q⟩ := e _ _ h
    change Ideal.cmp .olt (x i) (Ideal.ofBits .f32 0x7F800000#32) = 1#1 at p
    change Ideal.cmp .ogt (x i) (Ideal.ofBits .f32 0xFF800000#32) = 1#1 at q
    rw [hi] at p
    rw [R.neg_inf] at q
    unfold Ideal.cmp at p q
    constructor
    · by_contra hn; simp [hn] at p
    · by_contra hn; simp [hn] at q
  exact ⟨(x i).toReal, (EReal.coe_toReal h1.1.ne h1.2.ne').symm⟩

/-- Where the mask of node numbers is one, the word is below 10000. -/
theorem nodeMask_lt {s : Shape} (x : IVec s 32) (i : s.Idx) (h : nodeMask x i = 1#1) : (x i).toNat < 10000 := by
  unfold nodeMask at h
  have e : ∀ p q : BitVec 1, IntOp.andi p q = 1#1 → p = 1#1 ∧ q = 1#1 := by decide
  obtain ⟨p, q⟩ := e _ _ h
  have b : ∀ c : Bool, BitVec.ofBool c = 1#1 → c = true := by decide
  exact WordArith.toNat_lt_of_zero_sle_of_slt_ofNat (x i) 10000 (by norm_num) (b _ p) (b _ q)

/-- Where the mask of non-negative words is one, the word reads the same signed and unsigned. -/
theorem posMask_lt {s : Shape} (x : IVec s 32) (i : s.Idx) (h : posMask x i = 1#1) : (x i).toNat < 2 ^ 31 := by
  have b : ∀ c : Bool, BitVec.ofBool c = 1#1 → c = true := by decide
  have p : BitVec.sle 0#32 (x i) = true := b _ h
  rw [BitVec.sle_eq_decide, decide_eq_true_eq] at p
  have := BitVec.toInt_eq_toNat_cond (x i)
  have := (x i).isLt
  simp at p
  omega

/-- A least word of zero, over words that are not negative, is the word of some node. -/
theorem leastMask_zero [hF : Cert.Pre_inputs_drawn.Facts] (x : IVec Cert.Pre_inputs_drawn.S10000 32) (h : leastMask x ix0 = 1#1) :
    ∃ n : Fin 10000, x (ix1 n) = 0#32 := by
  unfold leastMask at h
  have hr : Host.reduce IntOp.minsi x (constantI Cert.Pre_inputs_drawn.S_ 32 2147483647#32) hF.reducesTo_S10000_S_d0 hF.h_S_ ix0
      = Finset.univ.fold IntOp.minsi 2147483647#32 fun n : Fin 10000 => x (ix1 n) := by
    pointwise
  rw [hr] at h
  have b : ∀ p q : BitVec 32, IntOp.cmpi .eq p q = 1#1 → p = q := by
    intro p q t
    by_contra hn
    simp [IntOp.cmpi, beq_eq_false_iff_ne.2 hn] at t
  have hz := b _ _ h
  have key : ∀ s : Finset (Fin 10000), (s.fold IntOp.minsi 2147483647#32 fun n : Fin 10000 => x (ix1 n)) = 2147483647#32
      ∨ ∃ n, (s.fold IntOp.minsi 2147483647#32 fun n : Fin 10000 => x (ix1 n)) = x (ix1 n) := by
    intro s
    induction s using Finset.induction_on with
    | empty => exact Or.inl rfl
    | insert n s hn ih =>
      rw [Finset.fold_insert hn]
      unfold IntOp.minsi
      split
      · exact Or.inr ⟨n, rfl⟩
      · exact ih
  rcases key Finset.univ with q | ⟨n, q⟩
  · rw [hz] at q; exact absurd q (by decide)
  · exact ⟨n, by rw [← q]; exact hz⟩

/-- What the precondition says of one side's arguments. -/
structure SideOk (x0 : FVec Ideal Cert.ReferenceIdeal.S10000x256 .f32) (x1 : IVec Cert.ReferenceIdeal.S2x160000 32)
    (x2 : IVec Cert.ReferenceIdeal.S10000 32) (x6 : FVec Ideal Cert.ReferenceIdeal.S256x256 .f32)
    (x7 x8 : FVec Ideal Cert.ReferenceIdeal.S256 .f32) : Prop where
  feat : ∀ n k, ∃ r : ℝ, x0 (ix2 n k) = (r : EReal)
  node : ∀ r e, (x1 (ix2 r e)).toNat < 10000
  pos : ∀ n, (x2 (ix1 n)).toNat < 2 ^ 31
  zero : ∃ n, x2 (ix1 n) = 0#32
  weight : ∀ k c, ∃ r : ℝ, x6 (ix2 k c) = (r : EReal)
  attSrc : ∀ c, ∃ r : ℝ, x7 (ix1 c) = (r : EReal)
  attDst : ∀ c, ∃ r : ℝ, x8 (ix1 c) = (r : EReal)

/-- The precondition's fourteen results, one mask each. -/
theorem fn_eq [hF : Cert.Pre_inputs_drawn.Facts] (a0 a3 : FVec Ideal Cert.Pre_inputs_drawn.S10000x256 .f32) (a1 a4 : IVec Cert.Pre_inputs_drawn.S2x160000 32)
    (a2 a5 : IVec Cert.Pre_inputs_drawn.S10000 32) (a6 a10 : FVec Ideal Cert.Pre_inputs_drawn.S256x256 .f32)
    (a7 a8 a9 a11 a12 a13 : FVec Ideal Cert.Pre_inputs_drawn.S256 .f32) (a14 : FVec Ideal Cert.Pre_inputs_drawn.S256x1 .f32)
    (a15 : FVec Ideal Cert.Pre_inputs_drawn.S1 .f32) :
    Cert.Pre_inputs_drawn.fn (F := Ideal) a0 a1 a2 a3 a4 a5 a6 a7 a8 a9 a10 a11 a12 a13 a14 a15
      = (finMask a0, nodeMask a1, posMask a2, leastMask a2, finMask a3, nodeMask a4, posMask a5, leastMask a5,
          finMask a6, finMask a7, finMask a8, finMask a10, finMask a11, finMask a12) := rfl

/-- The precondition gives what is needed of either side. -/
theorem sides [hF : Cert.Pre_inputs_drawn.Facts] (m : (ℓ : Loc Cert.KernelIdeal.nD Cert.KernelIdeal.τ Cert.KernelIdeal.sig) → Buf (Elt Ideal) ℓ)
    (h : Cert.Pre_KernelIdeal_inputs_drawn m) (c : Dev Cert.KernelIdeal.nD) :
    SideOk (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      ∧ SideOk (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)) := by
  have hc := h c
  simp only [fn_eq] at hc
  obtain ⟨h0, h1, h2, h3, h4, h5, h6, h7, h8, h9, h10, h11, h12, h13⟩ := hc
  exact ⟨⟨fun n k => finMask_real _ _ (congrFun h0 _), fun r e => nodeMask_lt _ _ (congrFun h1 _), fun n => posMask_lt _ _ (congrFun h2 _),
      leastMask_zero _ (congrFun h3 _), fun k j => finMask_real _ _ (congrFun h8 _), fun j => finMask_real _ _ (congrFun h9 _),
      fun j => finMask_real _ _ (congrFun h10 _)⟩,
    ⟨fun n k => finMask_real _ _ (congrFun h4 _), fun r e => nodeMask_lt _ _ (congrFun h5 _), fun n => posMask_lt _ _ (congrFun h6 _),
      leastMask_zero _ (congrFun h7 _), fun k j => finMask_real _ _ (congrFun h11 _), fun j => finMask_real _ _ (congrFun h12 _),
      fun j => finMask_real _ _ (congrFun h13 _)⟩⟩

end Cert.Proof
end
-- ==== Proof.Equation.lean ====
/-
  The equation between the two programs: what the kernel's three calls leave in the result array is the reference's
  result of the same arguments.
-/
module
public import proofs.«01_k».proof.Proof.Arrays
public import proofs.«01_k».proof.Proof.Pre
@[expose] public section
set_option maxRecDepth 16384
noncomputable section
namespace Cert.Proof
open Cert.KernelIdeal Cert.KernelIdeal.Gen Idealize.ShloMosaic Idealize.ShloMosaic.TcCoe Cert.ReferenceIdeal.Read

/-- One side: the logistic of the kernel's value is the reference's, at every graph and column. -/
theorem side_eq {x0 : FVec Ideal Cert.ReferenceIdeal.S10000x256 .f32} {x1 : IVec Cert.ReferenceIdeal.S2x160000 32}
    {x2 : IVec Cert.ReferenceIdeal.S10000 32} {x6 : FVec Ideal Cert.ReferenceIdeal.S256x256 .f32} {x7 x8 x9 : FVec Ideal Cert.ReferenceIdeal.S256 .f32}
    {X0 : Vec Ideal S10240x256 .f32} {X1 X2 : Vec Ideal S313x1x512 .i32} {X3 : Vec Ideal S1x10240 .i32} {X4 : Vec Ideal S256x256 .f32}
    {X5 X6 : Vec Ideal S256x1 .f32} {X7 : Vec Ideal S1x256 .f32}
    (P : Padded x0 x1 x2 x6 x7 x8 x9 X0 X1 X2 X3 X4 X5 X6 X7) (h : SideOk x0 x1 x2 x6 x7 x8) (g : Fin 64) (c : Fin 256) :
    Ideal.logistic (K.sideVal X0 X1 X2 X3 X4 X5 X6 X7 (ix2 g c)) = val_main_v89 (F := Ideal) x0 x1 x2 x6 x7 x8 x9 (ix2 g c) := by
  obtain ⟨hx, hE, hB, hZ, hW, ha, ha'⟩ := h
  choose x hx using hx
  choose W hW using hW
  choose a ha using ha
  choose a' ha' using ha'
  rw [sideVal_eq x0 x1 x2 x6 x7 x8 x9 X0 X1 X2 X3 X4 X5 X6 X7 x W a a' hx hW ha ha' hE hB hZ P g c,
    R.v89_apply x2 hB hZ x1 hE x0 x6 x7 x8 x9 x W a a' hx hW ha ha' g c]

section
variable (x0 x3 : FVec Ideal Cert.ReferenceIdeal.S10000x256 .f32) (x1 x4 : IVec Cert.ReferenceIdeal.S2x160000 32)
  (x2 x5 : IVec Cert.ReferenceIdeal.S10000 32) (x6 x10 : FVec Ideal Cert.ReferenceIdeal.S256x256 .f32)
  (x7 x8 x9 x11 x12 x13 : FVec Ideal Cert.ReferenceIdeal.S256 .f32) (x14 : FVec Ideal Cert.ReferenceIdeal.S256x1 .f32)
  (x15 : FVec Ideal Cert.ReferenceIdeal.S1 .f32)

/-- The reference's result: the two sides' values added, times the weights, plus the bias. -/
theorem v184_apply (g : Fin 64) : val_main_v184 (F := Ideal) x0 x1 x2 x3 x4 x5 x6 x7 x8 x9 x10 x11 x12 x13 x14 x15 (ix2 g 0)
    = (∑ k : Fin 256, (val_main_v89 (F := Ideal) x0 x1 x2 x6 x7 x8 x9 (ix2 g k) + val_main_v89 (F := Ideal) x3 x4 x5 x10 x11 x12 x13 (ix2 g k))
        * x14 (ix2 k 0) : EReal) + x15 (ix1 0) := by
  rw [← R.v179_eq x5 x4 x3 x10 x11 x12 x13]
  pointwise [val_main_v184, val_main_v183, val_main_v182, val_main_v181, val_main_v180]
end

section
variable (m : (ℓ : Loc nD τ sig) → Buf (Elt Ideal) ℓ) (ρ : Dev nD → PrngReg) (c : Dev nD)

/-- What the last call reads of the first call's result. -/
theorem entry_first : V21 m ρ c main_v14 = K.sideVal (V9 m ρ c main_v0) (V9 m ρ c main_v4) (V9 m ρ c main_v8) (V9 m ρ c main_v10)
    (V9 m ρ c main_arg6) (V9 m ρ c main_v11) (V9 m ρ c main_v12) (V9 m ρ c main_v13) := by
  refine Eq.trans ?_ (arr0 (V9 m ρ) c)
  refine Eq.trans ?_ (W10_arr m ρ c 8)
  show W21 m ρ c (Proc.devRef .tc main_v14) = W10 m ρ c (Proc.devRef .tc main_v14)
  rw [W21_of m ρ c main_v14 (by decide), W20_of m ρ c main_v14 (by decide), W19_of m ρ c main_v14 (by decide), W18_of m ρ c main_v14 (by decide),
    W17_of m ρ c main_v14 (by decide), W16_of m ρ c main_v14 (by decide), W15_of m ρ c main_v14 (by decide), W14_of m ρ c main_v14 (by decide),
    W13_of m ρ c main_v14 (by decide), W12_of m ρ c main_v14 (by decide), W11_of m ρ c main_v14 (by decide)]

/-- What the last call reads of the second call's result. -/
theorem entry_second : V21 m ρ c main_v29 = K.sideVal (V19 m ρ c main_v15) (V19 m ρ c main_v19) (V19 m ρ c main_v23) (V19 m ρ c main_v25)
    (V19 m ρ c main_arg10) (V19 m ρ c main_v26) (V19 m ρ c main_v27) (V19 m ρ c main_v28) := by
  refine Eq.trans ?_ (arr1 (V19 m ρ) c)
  refine Eq.trans ?_ (W20_arr m ρ c 8)
  exact W21_of m ρ c main_v29 (by decide)

/-- The bias the last call reads is the argument. -/
theorem entry_bias : V21 m ρ c main_v30 (ix2 0 0) = m ((c : Thread nD τ).loc main_arg15) (ix1 0) :=
  (bias2 (W20 m ρ c)).trans (congrFun (W20_args m ρ c main_arg15 (by decide)) (ix1 0))

/-- The result array after the run is the reference's result of the arguments. -/
theorem result_eq [hF : Cert.Pre_inputs_drawn.Facts] (h : Cert.Pre_KernelIdeal_inputs_drawn m) :
    W22 m ρ c (Proc.devRef .tc main_v31) = val_main_v184 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) := by
  obtain ⟨hs, ht⟩ := sides m h c
  refine Eq.trans ((W22_arr m ρ c 4).trans (arr2 (V21 m ρ) c)) ?_
  funext j
  have e : ∀ z : Fin 1, z = 0 := fun z => Subsingleton.elim _ _
  obtain ⟨g, rfl⟩ : ∃ g : Fin 64, j = ix2 g (0 : Fin 1) := ⟨j 0, (eq_ix2 j).trans (congrArg (fun z : Fin 1 => ix2 (j 0) z) (e (j 1)))⟩
  rw [v184_apply]
  have hw : V21 m ρ c main_arg14 = m ((c : Thread nD τ).loc main_arg14) := W21_args m ρ c main_arg14 (by decide)
  rw [entry_first, entry_second, hw]
  unfold last
  rw [entry_bias]
  refine congrArg (fun z : EReal => z + m ((c : Thread nD τ).loc main_arg15) (ix1 0)) (Finset.sum_congr rfl fun k _ => ?_)
  refine congrArg (fun z : EReal => z * m ((c : Thread nD τ).loc main_arg14) (ix2 k 0)) ?_
  exact congrArg₂ (fun y z : EReal => y + z) (side_eq (padded0 m ρ c) hs g k) (side_eq (padded1 m ρ c) ht g k)
end
end Cert.Proof
end
-- ==== Proof.Algebraic.lean ====
/-
  The value claim: from memories that agree on the arguments and satisfy the precondition, the kernel and the reference
  end with the same result array.
-/
module
public import proofs.«01_k».proof.Proof.Launch
public import proofs.«01_k».proof.Proof.Equation
public import proofs.«01_k».proof.Proof.Frames
public import proofs.«01_k».proof.Proof.Gen.ReferenceIdeal.Read
@[expose] public section
set_option maxRecDepth 16384
noncomputable section
namespace Cert.Proof
open Idealize.ShloMosaic Idealize.ShloMosaic.TcCoe Idealize.SL.Sem

/-- The kernel's result array is the reference's result of the same arguments. -/
theorem algebraic [hF : Cert.Pre_inputs_drawn.Facts] : Cert.algebraic_KernelIdeal_ReferenceIdeal_pre_inputs_drawn := by
  intro m ρ m' ρ' hpre hargs
  refine ⟨fun c => Cert.KernelIdeal.Gen.W22 m ρ c (Proc.devRef .tc Cert.KernelIdeal.main_v31), ?_, ?_⟩
  · refine (θ_run Cert.KernelIdeal.defs _ _).mono (fun r h c => ?_) (kernel_value m ρ)
    obtain ⟨hv, ha⟩ := h c
    exact ⟨hv, ha _ (by decide), ha _ (by decide), ha _ (by decide), ha _ (by decide), ha _ (by decide), ha _ (by decide), ha _ (by decide),
      ha _ (by decide), ha _ (by decide), ha _ (by decide), ha _ (by decide), ha _ (by decide), ha _ (by decide), ha _ (by decide),
      ha _ (by decide), ha _ (by decide)⟩
  · refine (θ_run Cert.ReferenceIdeal.defs _ _).mono (fun r h c => ⟨(h c).1.trans ?_, (h c).2⟩) (Cert.ReferenceIdeal.Value.run m' ρ')
    refine (Cert.ReferenceIdeal.Read.val_main_v184_eq (StableHlo.launchContents m' c)).trans ?_
    refine Eq.trans ?_ (result_eq m ρ c hpre).symm
    obtain ⟨h0, h1, h2, h3, h4, h5, h6, h7, h8, h9, h10, h11, h12, h13, h14, h15⟩ := hargs c
    rw [← h0, ← h1, ← h2, ← h3, ← h4, ← h5, ← h6, ← h7, ← h8, ← h9, ← h10, ← h11, ← h12, ← h13, ← h14, ← h15]
end Cert.Proof
end
-- ==== Proof.lean ====
/- The certificate: the modules of Proof/ put together into the one claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims: the frames, with and without the precondition; that the kernel at exact values
    is the published one; and that its result is the reference's. -/
theorem claim : Cert.Claim :=
  ⟨Cert.Kernel.Gen.facts, Cert.KernelIdeal.Gen.facts, Cert.ReferenceIdeal.Gen.facts, preFacts,
    kernel_frame, kernelIdeal_frame, fun m ρ _ => kernelIdeal_frame m ρ trivial, referenceIdeal_frame,
    fun m ρ _ => referenceIdeal_frame m ρ trivial, trivial, algebraic (hF := preFacts)⟩

end Cert.Proof

end
